-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_capacity_KernelIdeal [hPre_capacity_KernelIdeal : Cert.Pre_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_capacity_ReferenceIdeal [hPre_capacity_ReferenceIdeal : Cert.Pre_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_capacity_KernelIdeal [hKernelIdeal : Cert.KernelIdeal.Facts] [hPre_capacity_KernelIdeal : Cert.Pre_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_capacity_ReferenceIdeal [hReferenceIdeal : Cert.ReferenceIdeal.Facts] [hPre_capacity_ReferenceIdeal : Cert.Pre_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_capacity_KernelIdeal [hKernelIdeal : Cert.KernelIdeal.Facts] [hReferenceIdeal : Cert.ReferenceIdeal.Facts] [hPre_capacity_KernelIdeal : Cert.Pre_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_capacity_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_capacity_KernelIdeal : Cert.Pre_capacity_KernelIdeal.Facts) (hPre_capacity_ReferenceIdeal : Cert.Pre_capacity_ReferenceIdeal.Facts),
    quiescent_Kernel (hKernel := hKernel)
    ∧ quiescent_KernelIdeal (hKernelIdeal := hKernelIdeal)
    ∧ quiescent_KernelIdeal_pre_capacity_KernelIdeal (hKernelIdeal := hKernelIdeal) (hPre_capacity_KernelIdeal := hPre_capacity_KernelIdeal)
    ∧ quiescent_ReferenceIdeal (hReferenceIdeal := hReferenceIdeal)
    ∧ quiescent_ReferenceIdeal_pre_capacity_ReferenceIdeal (hReferenceIdeal := hReferenceIdeal) (hPre_capacity_ReferenceIdeal := hPre_capacity_ReferenceIdeal)
    ∧ preserves_Kernel_KernelIdeal
    ∧ algebraic_KernelIdeal_ReferenceIdeal_pre_capacity_KernelIdeal (hKernelIdeal := hKernelIdeal) (hReferenceIdeal := hReferenceIdeal) (hPre_capacity_KernelIdeal := hPre_capacity_KernelIdeal)
-- ==== Pre_capacity_KernelIdeal.lean ====
abbrev S1024x512 : Shape := ⟨2, ![1024, 512]⟩
abbrev S512x32 : Shape := ⟨2, ![512, 32]⟩
abbrev S1024x1 : Shape := ⟨2, ![1024, 1]⟩
abbrev S4x512x1024 : Shape := ⟨3, ![4, 512, 1024]⟩
abbrev S512x1024 : Shape := ⟨2, ![512, 1024]⟩
abbrev S_ : Shape := ⟨0, ![]⟩
abbrev S8 : Shape := ⟨1, ![8]⟩
abbrev S1x8 : Shape := ⟨2, ![1, 8]⟩
abbrev S1024x8 : Shape := ⟨2, ![1024, 8]⟩
abbrev S2x512x8 : Shape := ⟨3, ![2, 512, 8]⟩
abbrev S2x8 : Shape := ⟨2, ![2, 8]⟩
abbrev S4 : Shape := ⟨1, ![4]⟩
abbrev S1x4 : Shape := ⟨2, ![1, 4]⟩
abbrev S1024x4 : Shape := ⟨2, ![1024, 4]⟩
abbrev S8x128x4 : Shape := ⟨3, ![8, 128, 4]⟩
abbrev S8x4 : Shape := ⟨2, ![8, 4]⟩
abbrev S8x1 : Shape := ⟨2, ![8, 1]⟩

class Facts : Prop where
  bcast_S_S1024x1 : S_.BroadcastsInDim S1024x1 (![] : Fin 0 → Fin S1024x1.rank)
  bcast_S8_S1x8_1 : S8.BroadcastsInDim S1x8 (![1] : Fin 1 → Fin S1x8.rank)
  bcast_S1024x1_S1024x8_0_1 : S1024x1.BroadcastsInDim S1024x8 (![0, 1] : Fin 2 → Fin S1024x8.rank)
  bcast_S1x8_S1024x8_0_1 : S1x8.BroadcastsInDim S1024x8 (![0, 1] : Fin 2 → Fin S1024x8.rank)
  natLt_1_32 : 1 < 32
  shapeCasts_S1024x8_S2x512x8 : S1024x8.ShapeCasts S2x512x8
  reducesTo_S2x512x8_S2x8_d1 : S2x512x8.ReducesTo [1] S2x8
  h_S_ : 0 < S_.numel
  bcast_S4_S1x4_1 : S4.BroadcastsInDim S1x4 (![1] : Fin 1 → Fin S1x4.rank)
  bcast_S1024x1_S1024x4_0_1 : S1024x1.BroadcastsInDim S1024x4 (![0, 1] : Fin 2 → Fin S1024x4.rank)
  bcast_S1x4_S1024x4_0_1 : S1x4.BroadcastsInDim S1024x4 (![0, 1] : Fin 2 → Fin S1024x4.rank)
  shapeCasts_S1024x4_S8x128x4 : S1024x4.ShapeCasts S8x128x4
  reducesTo_S8x128x4_S8x4_d1 : S8x128x4.ReducesTo [1] S8x4
  bcast_S_S8 : S_.BroadcastsInDim S8 (![] : Fin 0 → Fin S8.rank)
  bcast_S8_S8x1_0 : S8.BroadcastsInDim S8x1 (![0] : Fin 1 → Fin S8x1.rank)
  bcast_S8x1_S8x4_0_1 : S8x1.BroadcastsInDim S8x4 (![0, 1] : Fin 2 → Fin S8x4.rank)
  bcast_S1x4_S8x4_0_1 : S1x4.BroadcastsInDim S8x4 (![0, 1] : Fin 2 → Fin S8x4.rank)
  bcast_S_S2x8 : S_.BroadcastsInDim S2x8 (![] : Fin 0 → Fin S2x8.rank)
  bcast_S_S8x4 : S_.BroadcastsInDim S8x4 (![] : Fin 0 → Fin S8x4.rank)
  bcast_S_S1024x512 : S_.BroadcastsInDim S1024x512 (![] : Fin 0 → Fin S1024x512.rank)
  bcast_S_S512x32 : S_.BroadcastsInDim S512x32 (![] : Fin 0 → Fin S512x32.rank)

variable [Facts]

def fn_where {F : FTy → Type} [FloatOps F] (arg0 : IVec S1024x1 1) (arg1 : IVec S1024x1 32) (arg2 : IVec S1024x1 32) : IVec S1024x1 32 :=
  let v0 : IVec S1024x1 32 := select arg0 arg1 arg2
  v0

def fn_floor_divide {F : FTy → Type} [FloatOps F] (arg0 : IVec S1024x1 32) (arg1 : IVec S_ 32) : IVec S1024x1 32 :=
  let v0 : IVec S_ 32 := id arg1
  let v1 : IVec S1024x1 32 := broadcastInDim S1024x1 ![] bcast_S_S1024x1 v0
  let v2 : IVec S1024x1 32 := Host.divsi arg0 v1
  let v3 : IVec S1024x1 32 := signi arg0
  let v4 : IVec S_ 32 := signi v0
  let v5 : IVec S1024x1 32 := broadcastInDim S1024x1 ![] bcast_S_S1024x1 v4
  let v6 : IVec S1024x1 1 := cmpi .ne v3 v5
  let v7 : IVec S1024x1 32 := broadcastInDim S1024x1 ![] bcast_S_S1024x1 v0
  let v8 : IVec S1024x1 32 := Host.remsi arg0 v7
  let c : IVec S_ 32 := constantI S_ 32 0#32
  let v9 : IVec S1024x1 32 := broadcastInDim S1024x1 ![] bcast_S_S1024x1 c
  let v10 : IVec S1024x1 1 := cmpi .ne v8 v9
  let v11 : IVec S1024x1 1 := andi v6 v10
  let c_0 : IVec S_ 32 := constantI S_ 32 1#32
  let v12 : IVec S1024x1 32 := broadcastInDim S1024x1 ![] bcast_S_S1024x1 c_0
  let v13 : IVec S1024x1 32 := subi v2 v12
  let v14 : IVec S1024x1 32 := fn_where (F := F) v11 v13 v2
  v14

def fn_part1 {F : FTy → Type} [FloatOps F] (main_arg0 : FVec F S1024x512 .f32) (main_arg1 : FVec F S512x32 .f32) (main_v8 : IVec S2x8 32) (main_v10 : IVec S1x4 32) (main_v18 : IVec S8x4 32) (main_v19 : IVec S8 32) : IVec S2x8 1 × IVec S8x4 1 × IVec S1024x512 1 × IVec S512x32 1 :=
  let main_c_3 : IVec S_ 32 := constantI S_ 32 4#32
  let main_v20 : IVec S8 32 := broadcastInDim S8 ![] bcast_S_S8 main_c_3
  let main_v21 : IVec S8 32 := Host.remsi main_v19 main_v20
  let main_v22 : IVec S8x1 32 := broadcastInDim S8x1 ![0] bcast_S8_S8x1_0 main_v21
  let main_v23 : IVec S8x4 32 := broadcastInDim S8x4 ![0, 1] bcast_S8x1_S8x4_0_1 main_v22
  let main_v24 : IVec S8x4 32 := broadcastInDim S8x4 ![0, 1] bcast_S1x4_S8x4_0_1 main_v10
  let main_v25 : IVec S8x4 1 := cmpi .eq main_v23 main_v24
  let main_c_4 : IVec S_ 32 := constantI S_ 32 112#32
  let main_v26 : IVec S2x8 32 := broadcastInDim S2x8 ![] bcast_S_S2x8 main_c_4
  let main_v27 : IVec S2x8 1 := cmpi .sle main_v8 main_v26
  let main_c_5 : IVec S_ 32 := constantI S_ 32 64#32
  let main_v28 : IVec S8x4 32 := broadcastInDim S8x4 ![] bcast_S_S8x4 main_c_5
  let main_v29 : IVec S8x4 1 := cmpi .sle main_v18 main_v28
  let main_v30 : IVec S8x4 1 := ori main_v29 main_v25
  let main_v31 : FVec F S1024x512 .f32 := Host.absf main_arg0
  let main_cst : FVec F S_ .f32 := constant S_ .f32 0x7F800000#32
  let main_v32 : FVec F S1024x512 .f32 := broadcastInDim S1024x512 ![] bcast_S_S1024x512 main_cst
  let main_v33 : IVec S1024x512 1 := cmpf .olt main_v31 main_v32
  let main_v34 : FVec F S512x32 .f32 := Host.absf main_arg1
  let main_cst_6 : FVec F S_ .f32 := constant S_ .f32 0x7F800000#32
  let main_v35 : FVec F S512x32 .f32 := broadcastInDim S512x32 ![] bcast_S_S512x32 main_cst_6
  let main_v36 : IVec S512x32 1 := cmpf .olt main_v34 main_v35
  (main_v27, main_v30, main_v33, main_v36)

def fn {F : FTy → Type} [FloatOps F] (main_arg0 : FVec F S1024x512 .f32) (main_arg1 : FVec F S512x32 .f32) (main_arg2 : IVec S1024x1 32) (main_arg3 : FVec F S4x512x1024 .f32) (main_arg4 : FVec F S512x1024 .f32) : IVec S2x8 1 × IVec S8x4 1 × IVec S1024x512 1 × IVec S512x32 1 :=
  let main_c : IVec S_ 32 := constantI S_ 32 4#32
  let main_v0 : IVec S1024x1 32 := fn_floor_divide (F := F) main_arg2 main_c
  let main_v1 : IVec S8 32 := iotaInDim S8 32 0
  let main_v2 : IVec S1x8 32 := broadcastInDim S1x8 ![1] bcast_S8_S1x8_1 main_v1
  let main_v3 : IVec S1024x8 32 := broadcastInDim S1024x8 ![0, 1] bcast_S1024x1_S1024x8_0_1 main_v0
  let main_v4 : IVec S1024x8 32 := broadcastInDim S1024x8 ![0, 1] bcast_S1x8_S1024x8_0_1 main_v2
  let main_v5 : IVec S1024x8 1 := cmpi .eq main_v3 main_v4
  let main_v6 : IVec S1024x8 32 := (extui 32 · natLt_1_32) main_v5
  let main_v7 : IVec S2x512x8 32 := shapeCast S2x512x8 main_v6 shapeCasts_S1024x8_S2x512x8
  let main_c_0 : IVec S_ 32 := constantI S_ 32 0#32
  let main_v8 : IVec S2x8 32 := (fun x v => Host.reduce IntOp.addi x v reducesTo_S2x512x8_S2x8_d1 h_S_) main_v7 main_c_0
  let main_v9 : IVec S4 32 := iotaInDim S4 32 0
  let main_v10 : IVec S1x4 32 := broadcastInDim S1x4 ![1] bcast_S4_S1x4_1 main_v9
  let main_c_1 : IVec S_ 32 := constantI S_ 32 4#32
  let main_v11 : IVec S1024x1 32 := broadcastInDim S1024x1 ![] bcast_S_S1024x1 main_c_1
  let main_v12 : IVec S1024x1 32 := Host.remsi main_v0 main_v11
  let main_v13 : IVec S1024x4 32 := broadcastInDim S1024x4 ![0, 1] bcast_S1024x1_S1024x4_0_1 main_v12
  let main_v14 : IVec S1024x4 32 := broadcastInDim S1024x4 ![0, 1] bcast_S1x4_S1024x4_0_1 main_v10
  let main_v15 : IVec S1024x4 1 := cmpi .eq main_v13 main_v14
  let main_v16 : IVec S1024x4 32 := (extui 32 · natLt_1_32) main_v15
  let main_v17 : IVec S8x128x4 32 := shapeCast S8x128x4 main_v16 shapeCasts_S1024x4_S8x128x4
  let main_c_2 : IVec S_ 32 := constantI S_ 32 0#32
  let main_v18 : IVec S8x4 32 := (fun x v => Host.reduce IntOp.addi x v reducesTo_S8x128x4_S8x4_d1 h_S_) main_v17 main_c_2
  let main_v19 : IVec S8 32 := iotaInDim S8 32 0
  fn_part1 (F := F) main_arg0 main_arg1 main_v8 main_v10 main_v18 main_v19
-- ==== Pre_capacity_ReferenceIdeal.lean ====
abbrev S1024x512 : Shape := ⟨2, ![1024, 512]⟩
abbrev S512x32 : Shape := ⟨2, ![512, 32]⟩
abbrev S1024x1 : Shape := ⟨2, ![1024, 1]⟩
abbrev S32x512x1024 : Shape := ⟨3, ![32, 512, 1024]⟩
abbrev S512x1024 : Shape := ⟨2, ![512, 1024]⟩
abbrev S_ : Shape := ⟨0, ![]⟩
abbrev S8 : Shape := ⟨1, ![8]⟩
abbrev S1x8 : Shape := ⟨2, ![1, 8]⟩
abbrev S1024x8 : Shape := ⟨2, ![1024, 8]⟩
abbrev S2x512x8 : Shape := ⟨3, ![2, 512, 8]⟩
abbrev S2x8 : Shape := ⟨2, ![2, 8]⟩
abbrev S4 : Shape := ⟨1, ![4]⟩
abbrev S1x4 : Shape := ⟨2, ![1, 4]⟩
abbrev S1024x4 : Shape := ⟨2, ![1024, 4]⟩
abbrev S8x128x4 : Shape := ⟨3, ![8, 128, 4]⟩
abbrev S8x4 : Shape := ⟨2, ![8, 4]⟩
abbrev S8x1 : Shape := ⟨2, ![8, 1]⟩

class Facts : Prop where
  bcast_S_S1024x1 : S_.BroadcastsInDim S1024x1 (![] : Fin 0 → Fin S1024x1.rank)
  bcast_S8_S1x8_1 : S8.BroadcastsInDim S1x8 (![1] : Fin 1 → Fin S1x8.rank)
  bcast_S1024x1_S1024x8_0_1 : S1024x1.BroadcastsInDim S1024x8 (![0, 1] : Fin 2 → Fin S1024x8.rank)
  bcast_S1x8_S1024x8_0_1 : S1x8.BroadcastsInDim S1024x8 (![0, 1] : Fin 2 → Fin S1024x8.rank)
  natLt_1_32 : 1 < 32
  shapeCasts_S1024x8_S2x512x8 : S1024x8.ShapeCasts S2x512x8
  reducesTo_S2x512x8_S2x8_d1 : S2x512x8.ReducesTo [1] S2x8
  h_S_ : 0 < S_.numel
  bcast_S4_S1x4_1 : S4.BroadcastsInDim S1x4 (![1] : Fin 1 → Fin S1x4.rank)
  bcast_S1024x1_S1024x4_0_1 : S1024x1.BroadcastsInDim S1024x4 (![0, 1] : Fin 2 → Fin S1024x4.rank)
  bcast_S1x4_S1024x4_0_1 : S1x4.BroadcastsInDim S1024x4 (![0, 1] : Fin 2 → Fin S1024x4.rank)
  shapeCasts_S1024x4_S8x128x4 : S1024x4.ShapeCasts S8x128x4
  reducesTo_S8x128x4_S8x4_d1 : S8x128x4.ReducesTo [1] S8x4
  bcast_S_S8 : S_.BroadcastsInDim S8 (![] : Fin 0 → Fin S8.rank)
  bcast_S8_S8x1_0 : S8.BroadcastsInDim S8x1 (![0] : Fin 1 → Fin S8x1.rank)
  bcast_S8x1_S8x4_0_1 : S8x1.BroadcastsInDim S8x4 (![0, 1] : Fin 2 → Fin S8x4.rank)
  bcast_S1x4_S8x4_0_1 : S1x4.BroadcastsInDim S8x4 (![0, 1] : Fin 2 → Fin S8x4.rank)
  bcast_S_S2x8 : S_.BroadcastsInDim S2x8 (![] : Fin 0 → Fin S2x8.rank)
  bcast_S_S8x4 : S_.BroadcastsInDim S8x4 (![] : Fin 0 → Fin S8x4.rank)
  bcast_S_S1024x512 : S_.BroadcastsInDim S1024x512 (![] : Fin 0 → Fin S1024x512.rank)
  bcast_S_S512x32 : S_.BroadcastsInDim S512x32 (![] : Fin 0 → Fin S512x32.rank)

variable [Facts]

def fn_where {F : FTy → Type} [FloatOps F] (arg0 : IVec S1024x1 1) (arg1 : IVec S1024x1 32) (arg2 : IVec S1024x1 32) : IVec S1024x1 32 :=
  let v0 : IVec S1024x1 32 := select arg0 arg1 arg2
  v0

def fn_floor_divide {F : FTy → Type} [FloatOps F] (arg0 : IVec S1024x1 32) (arg1 : IVec S_ 32) : IVec S1024x1 32 :=
  let v0 : IVec S_ 32 := id arg1
  let v1 : IVec S1024x1 32 := broadcastInDim S1024x1 ![] bcast_S_S1024x1 v0
  let v2 : IVec S1024x1 32 := Host.divsi arg0 v1
  let v3 : IVec S1024x1 32 := signi arg0
  let v4 : IVec S_ 32 := signi v0
  let v5 : IVec S1024x1 32 := broadcastInDim S1024x1 ![] bcast_S_S1024x1 v4
  let v6 : IVec S1024x1 1 := cmpi .ne v3 v5
  let v7 : IVec S1024x1 32 := broadcastInDim S1024x1 ![] bcast_S_S1024x1 v0
  let v8 : IVec S1024x1 32 := Host.remsi arg0 v7
  let c : IVec S_ 32 := constantI S_ 32 0#32
  let v9 : IVec S1024x1 32 := broadcastInDim S1024x1 ![] bcast_S_S1024x1 c
  let v10 : IVec S1024x1 1 := cmpi .ne v8 v9
  let v11 : IVec S1024x1 1 := andi v6 v10
  let c_0 : IVec S_ 32 := constantI S_ 32 1#32
  let v12 : IVec S1024x1 32 := broadcastInDim S1024x1 ![] bcast_S_S1024x1 c_0
  let v13 : IVec S1024x1 32 := subi v2 v12
  let v14 : IVec S1024x1 32 := fn_where (F := F) v11 v13 v2
  v14

def fn_part1 {F : FTy → Type} [FloatOps F] (main_arg0 : FVec F S1024x512 .f32) (main_arg1 : FVec F S512x32 .f32) (main_v8 : IVec S2x8 32) (main_v10 : IVec S1x4 32) (main_v18 : IVec S8x4 32) (main_v19 : IVec S8 32) : IVec S2x8 1 × IVec S8x4 1 × IVec S1024x512 1 × IVec S512x32 1 :=
  let main_c_3 : IVec S_ 32 := constantI S_ 32 4#32
  let main_v20 : IVec S8 32 := broadcastInDim S8 ![] bcast_S_S8 main_c_3
  let main_v21 : IVec S8 32 := Host.remsi main_v19 main_v20
  let main_v22 : IVec S8x1 32 := broadcastInDim S8x1 ![0] bcast_S8_S8x1_0 main_v21
  let main_v23 : IVec S8x4 32 := broadcastInDim S8x4 ![0, 1] bcast_S8x1_S8x4_0_1 main_v22
  let main_v24 : IVec S8x4 32 := broadcastInDim S8x4 ![0, 1] bcast_S1x4_S8x4_0_1 main_v10
  let main_v25 : IVec S8x4 1 := cmpi .eq main_v23 main_v24
  let main_c_4 : IVec S_ 32 := constantI S_ 32 112#32
  let main_v26 : IVec S2x8 32 := broadcastInDim S2x8 ![] bcast_S_S2x8 main_c_4
  let main_v27 : IVec S2x8 1 := cmpi .sle main_v8 main_v26
  let main_c_5 : IVec S_ 32 := constantI S_ 32 64#32
  let main_v28 : IVec S8x4 32 := broadcastInDim S8x4 ![] bcast_S_S8x4 main_c_5
  let main_v29 : IVec S8x4 1 := cmpi .sle main_v18 main_v28
  let main_v30 : IVec S8x4 1 := ori main_v29 main_v25
  let main_v31 : FVec F S1024x512 .f32 := Host.absf main_arg0
  let main_cst : FVec F S_ .f32 := constant S_ .f32 0x7F800000#32
  let main_v32 : FVec F S1024x512 .f32 := broadcastInDim S1024x512 ![] bcast_S_S1024x512 main_cst
  let main_v33 : IVec S1024x512 1 := cmpf .olt main_v31 main_v32
  let main_v34 : FVec F S512x32 .f32 := Host.absf main_arg1
  let main_cst_6 : FVec F S_ .f32 := constant S_ .f32 0x7F800000#32
  let main_v35 : FVec F S512x32 .f32 := broadcastInDim S512x32 ![] bcast_S_S512x32 main_cst_6
  let main_v36 : IVec S512x32 1 := cmpf .olt main_v34 main_v35
  (main_v27, main_v30, main_v33, main_v36)

def fn {F : FTy → Type} [FloatOps F] (main_arg0 : FVec F S1024x512 .f32) (main_arg1 : FVec F S512x32 .f32) (main_arg2 : IVec S1024x1 32) (main_arg3 : FVec F S32x512x1024 .f32) (main_arg4 : FVec F S512x1024 .f32) : IVec S2x8 1 × IVec S8x4 1 × IVec S1024x512 1 × IVec S512x32 1 :=
  let main_c : IVec S_ 32 := constantI S_ 32 4#32
  let main_v0 : IVec S1024x1 32 := fn_floor_divide (F := F) main_arg2 main_c
  let main_v1 : IVec S8 32 := iotaInDim S8 32 0
  let main_v2 : IVec S1x8 32 := broadcastInDim S1x8 ![1] bcast_S8_S1x8_1 main_v1
  let main_v3 : IVec S1024x8 32 := broadcastInDim S1024x8 ![0, 1] bcast_S1024x1_S1024x8_0_1 main_v0
  let main_v4 : IVec S1024x8 32 := broadcastInDim S1024x8 ![0, 1] bcast_S1x8_S1024x8_0_1 main_v2
  let main_v5 : IVec S1024x8 1 := cmpi .eq main_v3 main_v4
  let main_v6 : IVec S1024x8 32 := (extui 32 · natLt_1_32) main_v5
  let main_v7 : IVec S2x512x8 32 := shapeCast S2x512x8 main_v6 shapeCasts_S1024x8_S2x512x8
  let main_c_0 : IVec S_ 32 := constantI S_ 32 0#32
  let main_v8 : IVec S2x8 32 := (fun x v => Host.reduce IntOp.addi x v reducesTo_S2x512x8_S2x8_d1 h_S_) main_v7 main_c_0
  let main_v9 : IVec S4 32 := iotaInDim S4 32 0
  let main_v10 : IVec S1x4 32 := broadcastInDim S1x4 ![1] bcast_S4_S1x4_1 main_v9
  let main_c_1 : IVec S_ 32 := constantI S_ 32 4#32
  let main_v11 : IVec S1024x1 32 := broadcastInDim S1024x1 ![] bcast_S_S1024x1 main_c_1
  let main_v12 : IVec S1024x1 32 := Host.remsi main_v0 main_v11
  let main_v13 : IVec S1024x4 32 := broadcastInDim S1024x4 ![0, 1] bcast_S1024x1_S1024x4_0_1 main_v12
  let main_v14 : IVec S1024x4 32 := broadcastInDim S1024x4 ![0, 1] bcast_S1x4_S1024x4_0_1 main_v10
  let main_v15 : IVec S1024x4 1 := cmpi .eq main_v13 main_v14
  let main_v16 : IVec S1024x4 32 := (extui 32 · natLt_1_32) main_v15
  let main_v17 : IVec S8x128x4 32 := shapeCast S8x128x4 main_v16 shapeCasts_S1024x4_S8x128x4
  let main_c_2 : IVec S_ 32 := constantI S_ 32 0#32
  let main_v18 : IVec S8x4 32 := (fun x v => Host.reduce IntOp.addi x v reducesTo_S8x128x4_S8x4_d1 h_S_) main_v17 main_c_2
  let main_v19 : IVec S8 32 := iotaInDim S8 32 0
  fn_part1 (F := F) main_arg0 main_arg1 main_v8 main_v10 main_v18 main_v19
-- ==== Kernel.lean ====
abbrev S1024x512 : Shape := ⟨2, ![1024, 512]⟩
abbrev S512x32 : Shape := ⟨2, ![512, 32]⟩
abbrev S1024x1 : Shape := ⟨2, ![1024, 1]⟩
abbrev S4x512x1024 : Shape := ⟨3, ![4, 512, 1024]⟩
abbrev S512x1024 : Shape := ⟨2, ![512, 1024]⟩
abbrev S128x1024 : Shape := ⟨2, ![128, 1024]⟩
abbrev S1024x4 : Shape := ⟨2, ![1024, 4]⟩
abbrev S112x1024 : Shape := ⟨2, ![112, 1024]⟩
abbrev S3x64x1024 : Shape := ⟨3, ![3, 64, 1024]⟩
abbrev S4 : Shape := ⟨1, ![4]⟩
abbrev S_ : Shape := ⟨0, ![]⟩
abbrev S1024x32 : Shape := ⟨2, ![1024, 32]⟩
abbrev S1024 : Shape := ⟨1, ![1024]⟩
abbrev S2048x1024 : Shape := ⟨2, ![2048, 1024]⟩
abbrev S512x1 : Shape := ⟨2, ![512, 1]⟩
abbrev S512x512 : Shape := ⟨2, ![512, 512]⟩
abbrev S512x112 : Shape := ⟨2, ![512, 112]⟩
abbrev S512x4 : Shape := ⟨2, ![512, 4]⟩
abbrev S112x512 : Shape := ⟨2, ![112, 512]⟩
abbrev S112x4 : Shape := ⟨2, ![112, 4]⟩
abbrev S112x1x512 : Shape := ⟨3, ![112, 1, 512]⟩
abbrev S112x4x1 : Shape := ⟨3, ![112, 4, 1]⟩
abbrev S112x4x512 : Shape := ⟨3, ![112, 4, 512]⟩
abbrev S112x2048 : Shape := ⟨2, ![112, 2048]⟩
abbrev S1 : Shape := ⟨1, ![1]⟩
abbrev S128x1 : Shape := ⟨2, ![128, 1]⟩
abbrev S128x128 : Shape := ⟨2, ![128, 128]⟩
abbrev S128x64 : Shape := ⟨2, ![128, 64]⟩
abbrev S64x1024 : Shape := ⟨2, ![64, 1024]⟩
abbrev S1x64x1024 : Shape := ⟨3, ![1, 64, 1024]⟩
abbrev S128x512 : Shape := ⟨2, ![128, 512]⟩

abbrev nBuf : Space → Nat
  | .hbm => 6
  | .vmem => 13
  | .smem => 0
  | _ => 0

abbrev bufTy : (tb : Table) → Fin (tcTables nBuf tb) → BufTy
  | .hbm, ⟨0, _⟩ => ⟨S1024x512, .f32⟩
  | .hbm, ⟨1, _⟩ => ⟨S512x32, .f32⟩
  | .hbm, ⟨2, _⟩ => ⟨S1024x1, .i32⟩
  | .hbm, ⟨3, _⟩ => ⟨S4x512x1024, .f32⟩
  | .hbm, ⟨4, _⟩ => ⟨S512x1024, .f32⟩
  | .hbm, ⟨5, _⟩ => ⟨S128x1024, .f32⟩
  | .local _ .vmem, ⟨0, _⟩ => ⟨S1024x512, .f32⟩
  | .local _ .vmem, ⟨1, _⟩ => ⟨S512x32, .f32⟩
  | .local _ .vmem, ⟨2, _⟩ => ⟨S1024x1, .i32⟩
  | .local _ .vmem, ⟨3, _⟩ => ⟨S4x512x1024, .f32⟩
  | .local _ .vmem, ⟨4, _⟩ => ⟨S512x1024, .f32⟩
  | .local _ .vmem, ⟨5, _⟩ => ⟨S128x1024, .f32⟩
  | .local _ .vmem, ⟨6, _⟩ => ⟨S1024x512, .bf16⟩
  | .local _ .vmem, ⟨7, _⟩ => ⟨S1024x4, .bf16⟩
  | .local _ .vmem, ⟨8, _⟩ => ⟨S512x1024, .bf16⟩
  | .local _ .vmem, ⟨9, _⟩ => ⟨S112x1024, .bf16⟩
  | .local _ .vmem, ⟨10, _⟩ => ⟨S112x1024, .bf16⟩
  | .local _ .vmem, ⟨11, _⟩ => ⟨S3x64x1024, .bf16⟩
  | .local _ .vmem, ⟨12, _⟩ => ⟨S3x64x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.addi v2 c4_i32
  let c8_i32_0 : BitVec 32 := 8#32
  let v4 : BitVec 32 := Scalar.remsi v3 c8_i32_0
  let c1_i32_18 : BitVec 32 := 1#32
  let v39 : BitVec 32 := Scalar.muli v4 c1_i32_18
  let v40 : BitVec 32 := Scalar.addi c0_i32_19 v39
  v40.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v6 : BitVec 1 := Scalar.cmpi .sgt v2 c0_i32
  let v7 : BitVec 32 := Scalar.extui v6
  let c0_i32_2 : BitVec 32 := 0#32
  let v8 : BitVec 1 := Scalar.cmpi .slt v2 c0_i32_2
  let v9 : BitVec 32 := Scalar.extui v8
  let v10 : BitVec 32 := Scalar.subi v7 v9
  let c4_i32_1 : BitVec 32 := 4#32
  let c0_i32_3 : BitVec 32 := 0#32
  let v11 : BitVec 1 := Scalar.cmpi .sgt c4_i32_1 c0_i32_3
  let v12 : BitVec 32 := Scalar.extui v11
  let c0_i32_4 : BitVec 32 := 0#32
  let v13 : BitVec 1 := Scalar.cmpi .slt c4_i32_1 c0_i32_4
  let v14 : BitVec 32 := Scalar.extui v13
  let v15 : BitVec 32 := Scalar.subi v12 v14
  let v16 : BitVec 1 := Scalar.cmpi .ne v10 v15
  let v17 : BitVec 32 := Scalar.remsi v2 c4_i32_1
  let c0_i32_5 : BitVec 32 := 0#32
  let v18 : BitVec 1 := Scalar.cmpi .ne v17 c0_i32_5
  let v19 : BitVec 1 := Scalar.andi v16 v18
  let v5 : BitVec 32 := Scalar.divsi v2 c4_i32_1
  let c1_i32_6 : BitVec 32 := 1#32
  let v20 : BitVec 32 := Scalar.subi v5 c1_i32_6
  let v21 : BitVec 32 := Scalar.select v19 v20 v5
  let c4_i32_10 : BitVec 32 := 4#32
  let v27 : BitVec 32 := Scalar.muli v21 c4_i32_10
  let c4_i32_9 : BitVec 32 := 4#32
  let v25 : BitVec 32 := Scalar.remsi v2 c4_i32_9
  let c1_i32_11 : BitVec 32 := 1#32
  let v28 : BitVec 32 := Scalar.addi v25 c1_i32_11
  let c4_i32_12 : BitVec 32 := 4#32
  let v29 : BitVec 32 := Scalar.remsi v28 c4_i32_12
  let v30 : BitVec 32 := Scalar.addi v27 v29
  let c1_i32_21 : BitVec 32 := 1#32
  let v41 : BitVec 32 := Scalar.muli v30 c1_i32_21
  let v42 : BitVec 32 := Scalar.addi c0_i32_22 v41
  v42.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v6 : BitVec 1 := Scalar.cmpi .sgt v2 c0_i32
  let v7 : BitVec 32 := Scalar.extui v6
  let c0_i32_2 : BitVec 32 := 0#32
  let v8 : BitVec 1 := Scalar.cmpi .slt v2 c0_i32_2
  let v9 : BitVec 32 := Scalar.extui v8
  let v10 : BitVec 32 := Scalar.subi v7 v9
  let c4_i32_1 : BitVec 32 := 4#32
  let c0_i32_3 : BitVec 32 := 0#32
  let v11 : BitVec 1 := Scalar.cmpi .sgt c4_i32_1 c0_i32_3
  let v12 : BitVec 32 := Scalar.extui v11
  let c0_i32_4 : BitVec 32 := 0#32
  let v13 : BitVec 1 := Scalar.cmpi .slt c4_i32_1 c0_i32_4
  let v14 : BitVec 32 := Scalar.extui v13
  let v15 : BitVec 32 := Scalar.subi v12 v14
  let v16 : BitVec 1 := Scalar.cmpi .ne v10 v15
  let v17 : BitVec 32 := Scalar.remsi v2 c4_i32_1
  let c0_i32_5 : BitVec 32 := 0#32
  let v18 : BitVec 1 := Scalar.cmpi .ne v17 c0_i32_5
  let v19 : BitVec 1 := Scalar.andi v16 v18
  let v5 : BitVec 32 := Scalar.divsi v2 c4_i32_1
  let c1_i32_6 : BitVec 32 := 1#32
  let v20 : BitVec 32 := Scalar.subi v5 c1_i32_6
  let v21 : BitVec 32 := Scalar.select v19 v20 v5
  let c4_i32_13 : BitVec 32 := 4#32
  let v31 : BitVec 32 := Scalar.muli v21 c4_i32_13
  let c4_i32_9 : BitVec 32 := 4#32
  let v25 : BitVec 32 := Scalar.remsi v2 c4_i32_9
  let c2_i32 : BitVec 32 := 2#32
  let v32 : BitVec 32 := Scalar.addi v25 c2_i32
  let c4_i32_14 : BitVec 32 := 4#32
  let v33 : BitVec 32 := Scalar.remsi v32 c4_i32_14
  let v34 : BitVec 32 := Scalar.addi v31 v33
  let c1_i32_24 : BitVec 32 := 1#32
  let v43 : BitVec 32 := Scalar.muli v34 c1_i32_24
  let v44 : BitVec 32 := Scalar.addi c0_i32_25 v43
  v44.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v6 : BitVec 1 := Scalar.cmpi .sgt v2 c0_i32
  let v7 : BitVec 32 := Scalar.extui v6
  let c0_i32_2 : BitVec 32 := 0#32
  let v8 : BitVec 1 := Scalar.cmpi .slt v2 c0_i32_2
  let v9 : BitVec 32 := Scalar.extui v8
  let v10 : BitVec 32 := Scalar.subi v7 v9
  let c4_i32_1 : BitVec 32 := 4#32
  let c0_i32_3 : BitVec 32 := 0#32
  let v11 : BitVec 1 := Scalar.cmpi .sgt c4_i32_1 c0_i32_3
  let v12 : BitVec 32 := Scalar.extui v11
  let c0_i32_4 : BitVec 32 := 0#32
  let v13 : BitVec 1 := Scalar.cmpi .slt c4_i32_1 c0_i32_4
  let v14 : BitVec 32 := Scalar.extui v13
  let v15 : BitVec 32 := Scalar.subi v12 v14
  let v16 : BitVec 1 := Scalar.cmpi .ne v10 v15
  let v17 : BitVec 32 := Scalar.remsi v2 c4_i32_1
  let c0_i32_5 : BitVec 32 := 0#32
  let v18 : BitVec 1 := Scalar.cmpi .ne v17 c0_i32_5
  let v19 : BitVec 1 := Scalar.andi v16 v18
  let v5 : BitVec 32 := Scalar.divsi v2 c4_i32_1
  let c1_i32_6 : BitVec 32 := 1#32
  let v20 : BitVec 32 := Scalar.subi v5 c1_i32_6
  let v21 : BitVec 32 := Scalar.select v19 v20 v5
  let c4_i32_15 : BitVec 32 := 4#32
  let v35 : BitVec 32 := Scalar.muli v21 c4_i32_15
  let c4_i32_9 : BitVec 32 := 4#32
  let v25 : BitVec 32 := Scalar.remsi v2 c4_i32_9
  let c3_i32 : BitVec 32 := 3#32
  let v36 : BitVec 32 := Scalar.addi v25 c3_i32
  let c4_i32_16 : BitVec 32 := 4#32
  let v37 : BitVec 32 := Scalar.remsi v36 c4_i32_16
  let v38 : BitVec 32 := Scalar.addi v35 v37
  let c1_i32_27 : BitVec 32 := 1#32
  let v45 : BitVec 32 := Scalar.muli v38 c1_i32_27
  let v46 : BitVec 32 := Scalar.addi c0_i32_28 v45
  v46.toNat
def k0_off1 (d0 : Dev nD) : Fin 2 → Nat :=
  let c1_i32_7 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v6 : BitVec 1 := Scalar.cmpi .sgt v2 c0_i32
  let v7 : BitVec 32 := Scalar.extui v6
  let c0_i32_2 : BitVec 32 := 0#32
  let v8 : BitVec 1 := Scalar.cmpi .slt v2 c0_i32_2
  let v9 : BitVec 32 := Scalar.extui v8
  let v10 : BitVec 32 := Scalar.subi v7 v9
  let c4_i32_1 : BitVec 32 := 4#32
  let c0_i32_3 : BitVec 32 := 0#32
  let v11 : BitVec 1 := Scalar.cmpi .sgt c4_i32_1 c0_i32_3
  let v12 : BitVec 32 := Scalar.extui v11
  let c0_i32_4 : BitVec 32 := 0#32
  let v13 : BitVec 1 := Scalar.cmpi .slt c4_i32_1 c0_i32_4
  let v14 : BitVec 32 := Scalar.extui v13
  let v15 : BitVec 32 := Scalar.subi v12 v14
  let v16 : BitVec 1 := Scalar.cmpi .ne v10 v15
  let v17 : BitVec 32 := Scalar.remsi v2 c4_i32_1
  let c0_i32_5 : BitVec 32 := 0#32
  let v18 : BitVec 1 := Scalar.cmpi .ne v17 c0_i32_5
  let v19 : BitVec 1 := Scalar.andi v16 v18
  let v5 : BitVec 32 := Scalar.divsi v2 c4_i32_1
  let c1_i32_6 : BitVec 32 := 1#32
  let v20 : BitVec 32 := Scalar.subi v5 c1_i32_6
  let v21 : BitVec 32 := Scalar.select v19 v20 v5
  let v23 : BitVec 32 := Scalar.subi c1_i32_7 v21
  let c512_i32_8 : BitVec 32 := 512#32
  let v24 : BitVec 32 := Scalar.muli v23 c512_i32_8
  let v92 : Index := Scalar.indexCast v24
  let c0_47 : Index := 0#32
  ![v92.toNat, 0]
def k0_off2 (d0 : Dev nD) : Fin 2 → Nat :=
  let c1_i32_7 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v6 : BitVec 1 := Scalar.cmpi .sgt v2 c0_i32
  let v7 : BitVec 32 := Scalar.extui v6
  let c0_i32_2 : BitVec 32 := 0#32
  let v8 : BitVec 1 := Scalar.cmpi .slt v2 c0_i32_2
  let v9 : BitVec 32 := Scalar.extui v8
  let v10 : BitVec 32 := Scalar.subi v7 v9
  let c4_i32_1 : BitVec 32 := 4#32
  let c0_i32_3 : BitVec 32 := 0#32
  let v11 : BitVec 1 := Scalar.cmpi .sgt c4_i32_1 c0_i32_3
  let v12 : BitVec 32 := Scalar.extui v11
  let c0_i32_4 : BitVec 32 := 0#32
  let v13 : BitVec 1 := Scalar.cmpi .slt c4_i32_1 c0_i32_4
  let v14 : BitVec 32 := Scalar.extui v13
  let v15 : BitVec 32 := Scalar.subi v12 v14
  let v16 : BitVec 1 := Scalar.cmpi .ne v10 v15
  let v17 : BitVec 32 := Scalar.remsi v2 c4_i32_1
  let c0_i32_5 : BitVec 32 := 0#32
  let v18 : BitVec 1 := Scalar.cmpi .ne v17 c0_i32_5
  let v19 : BitVec 1 := Scalar.andi v16 v18
  let v5 : BitVec 32 := Scalar.divsi v2 c4_i32_1
  let c1_i32_6 : BitVec 32 := 1#32
  let v20 : BitVec 32 := Scalar.subi v5 c1_i32_6
  let v21 : BitVec 32 := Scalar.select v19 v20 v5
  let v23 : BitVec 32 := Scalar.subi c1_i32_7 v21
  let c512_i32_8 : BitVec 32 := 512#32
  let v24 : BitVec 32 := Scalar.muli v23 c512_i32_8
  let v142 : Index := Scalar.indexCast v24
  let c0_59 : Index := 0#32
  ![v142.toNat, 0]
def k0_off3 (d0 : Dev nD) : Fin 2 → Nat :=
  let c1_i32_7 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v6 : BitVec 1 := Scalar.cmpi .sgt v2 c0_i32
  let v7 : BitVec 32 := Scalar.extui v6
  let c0_i32_2 : BitVec 32 := 0#32
  let v8 : BitVec 1 := Scalar.cmpi .slt v2 c0_i32_2
  let v9 : BitVec 32 := Scalar.extui v8
  let v10 : BitVec 32 := Scalar.subi v7 v9
  let c4_i32_1 : BitVec 32 := 4#32
  let c0_i32_3 : BitVec 32 := 0#32
  let v11 : BitVec 1 := Scalar.cmpi .sgt c4_i32_1 c0_i32_3
  let v12 : BitVec 32 := Scalar.extui v11
  let c0_i32_4 : BitVec 32 := 0#32
  let v13 : BitVec 1 := Scalar.cmpi .slt c4_i32_1 c0_i32_4
  let v14 : BitVec 32 := Scalar.extui v13
  let v15 : BitVec 32 := Scalar.subi v12 v14
  let v16 : BitVec 1 := Scalar.cmpi .ne v10 v15
  let v17 : BitVec 32 := Scalar.remsi v2 c4_i32_1
  let c0_i32_5 : BitVec 32 := 0#32
  let v18 : BitVec 1 := Scalar.cmpi .ne v17 c0_i32_5
  let v19 : BitVec 1 := Scalar.andi v16 v18
  let v5 : BitVec 32 := Scalar.divsi v2 c4_i32_1
  let c1_i32_6 : BitVec 32 := 1#32
  let v20 : BitVec 32 := Scalar.subi v5 c1_i32_6
  let v21 : BitVec 32 := Scalar.select v19 v20 v5
  let v23 : BitVec 32 := Scalar.subi c1_i32_7 v21
  let c512_i32_8 : BitVec 32 := 512#32
  let v24 : BitVec 32 := Scalar.muli v23 c512_i32_8
  let v144 : Index := Scalar.indexCast v24
  let c0_60 : Index := 0#32
  ![v144.toNat, 0]
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.addi v2 c4_i32
  let c8_i32_0 : BitVec 32 := 8#32
  let v4 : BitVec 32 := Scalar.remsi v3 c8_i32_0
  let c1_i32_68 : BitVec 32 := 1#32
  let v161 : BitVec 32 := Scalar.muli v4 c1_i32_68
  let v162 : BitVec 32 := Scalar.addi c0_i32_69 v161
  v162.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v6 : BitVec 1 := Scalar.cmpi .sgt v2 c0_i32
  let v7 : BitVec 32 := Scalar.extui v6
  let c0_i32_2 : BitVec 32 := 0#32
  let v8 : BitVec 1 := Scalar.cmpi .slt v2 c0_i32_2
  let v9 : BitVec 32 := Scalar.extui v8
  let v10 : BitVec 32 := Scalar.subi v7 v9
  let c4_i32_1 : BitVec 32 := 4#32
  let c0_i32_3 : BitVec 32 := 0#32
  let v11 : BitVec 1 := Scalar.cmpi .sgt c4_i32_1 c0_i32_3
  let v12 : BitVec 32 := Scalar.extui v11
  let c0_i32_4 : BitVec 32 := 0#32
  let v13 : BitVec 1 := Scalar.cmpi .slt c4_i32_1 c0_i32_4
  let v14 : BitVec 32 := Scalar.extui v13
  let v15 : BitVec 32 := Scalar.subi v12 v14
  let v16 : BitVec 1 := Scalar.cmpi .ne v10 v15
  let v17 : BitVec 32 := Scalar.remsi v2 c4_i32_1
  let c0_i32_5 : BitVec 32 := 0#32
  let v18 : BitVec 1 := Scalar.cmpi .ne v17 c0_i32_5
  let v19 : BitVec 1 := Scalar.andi v16 v18
  let v5 : BitVec 32 := Scalar.divsi v2 c4_i32_1
  let c1_i32_6 : BitVec 32 := 1#32
  let v20 : BitVec 32 := Scalar.subi v5 c1_i32_6
  let v21 : BitVec 32 := Scalar.select v19 v20 v5
  let c512_i32 : BitVec 32 := 512#32
  let v22 : BitVec 32 := Scalar.muli v21 c512_i32
  let v167 : Index := Scalar.indexCast v22
  let c0_70 : Index := 0#32
  ![v167.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v6 : BitVec 1 := Scalar.cmpi .sgt v2 c0_i32
  let v7 : BitVec 32 := Scalar.extui v6
  let c0_i32_2 : BitVec 32 := 0#32
  let v8 : BitVec 1 := Scalar.cmpi .slt v2 c0_i32_2
  let v9 : BitVec 32 := Scalar.extui v8
  let v10 : BitVec 32 := Scalar.subi v7 v9
  let c4_i32_1 : BitVec 32 := 4#32
  let c0_i32_3 : BitVec 32 := 0#32
  let v11 : BitVec 1 := Scalar.cmpi .sgt c4_i32_1 c0_i32_3
  let v12 : BitVec 32 := Scalar.extui v11
  let c0_i32_4 : BitVec 32 := 0#32
  let v13 : BitVec 1 := Scalar.cmpi .slt c4_i32_1 c0_i32_4
  let v14 : BitVec 32 := Scalar.extui v13
  let v15 : BitVec 32 := Scalar.subi v12 v14
  let v16 : BitVec 1 := Scalar.cmpi .ne v10 v15
  let v17 : BitVec 32 := Scalar.remsi v2 c4_i32_1
  let c0_i32_5 : BitVec 32 := 0#32
  let v18 : BitVec 1 := Scalar.cmpi .ne v17 c0_i32_5
  let v19 : BitVec 1 := Scalar.andi v16 v18
  let v5 : BitVec 32 := Scalar.divsi v2 c4_i32_1
  let c1_i32_6 : BitVec 32 := 1#32
  let v20 : BitVec 32 := Scalar.subi v5 c1_i32_6
  let v21 : BitVec 32 := Scalar.select v19 v20 v5
  let c512_i32 : BitVec 32 := 512#32
  let v22 : BitVec 32 := Scalar.muli v21 c512_i32
  let v217 : Index := Scalar.indexCast v22
  let c0_82 : Index := 0#32
  ![v217.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v6 : BitVec 1 := Scalar.cmpi .sgt v2 c0_i32
  let v7 : BitVec 32 := Scalar.extui v6
  let c0_i32_2 : BitVec 32 := 0#32
  let v8 : BitVec 1 := Scalar.cmpi .slt v2 c0_i32_2
  let v9 : BitVec 32 := Scalar.extui v8
  let v10 : BitVec 32 := Scalar.subi v7 v9
  let c4_i32_1 : BitVec 32 := 4#32
  let c0_i32_3 : BitVec 32 := 0#32
  let v11 : BitVec 1 := Scalar.cmpi .sgt c4_i32_1 c0_i32_3
  let v12 : BitVec 32 := Scalar.extui v11
  let c0_i32_4 : BitVec 32 := 0#32
  let v13 : BitVec 1 := Scalar.cmpi .slt c4_i32_1 c0_i32_4
  let v14 : BitVec 32 := Scalar.extui v13
  let v15 : BitVec 32 := Scalar.subi v12 v14
  let v16 : BitVec 1 := Scalar.cmpi .ne v10 v15
  let v17 : BitVec 32 := Scalar.remsi v2 c4_i32_1
  let c0_i32_5 : BitVec 32 := 0#32
  let v18 : BitVec 1 := Scalar.cmpi .ne v17 c0_i32_5
  let v19 : BitVec 1 := Scalar.andi v16 v18
  let v5 : BitVec 32 := Scalar.divsi v2 c4_i32_1
  let c1_i32_6 : BitVec 32 := 1#32
  let v20 : BitVec 32 := Scalar.subi v5 c1_i32_6
  let v21 : BitVec 32 := Scalar.select v19 v20 v5
  let c512_i32 : BitVec 32 := 512#32
  let v22 : BitVec 32 := Scalar.muli v21 c512_i32
  let v219 : Index := Scalar.indexCast v22
  let c0_83 : Index := 0#32
  ![v219.toNat, 0]
def k0_off7 (d0 : Dev nD) (c1_i32_105 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v6 : BitVec 1 := Scalar.cmpi .sgt v2 c0_i32
  let v7 : BitVec 32 := Scalar.extui v6
  let c0_i32_2 : BitVec 32 := 0#32
  let v8 : BitVec 1 := Scalar.cmpi .slt v2 c0_i32_2
  let v9 : BitVec 32 := Scalar.extui v8
  let v10 : BitVec 32 := Scalar.subi v7 v9
  let c4_i32_1 : BitVec 32 := 4#32
  let c0_i32_3 : BitVec 32 := 0#32
  let v11 : BitVec 1 := Scalar.cmpi .sgt c4_i32_1 c0_i32_3
  let v12 : BitVec 32 := Scalar.extui v11
  let c0_i32_4 : BitVec 32 := 0#32
  let v13 : BitVec 1 := Scalar.cmpi .slt c4_i32_1 c0_i32_4
  let v14 : BitVec 32 := Scalar.extui v13
  let v15 : BitVec 32 := Scalar.subi v12 v14
  let v16 : BitVec 1 := Scalar.cmpi .ne v10 v15
  let v17 : BitVec 32 := Scalar.remsi v2 c4_i32_1
  let c0_i32_5 : BitVec 32 := 0#32
  let v18 : BitVec 1 := Scalar.cmpi .ne v17 c0_i32_5
  let v19 : BitVec 1 := Scalar.andi v16 v18
  let v5 : BitVec 32 := Scalar.divsi v2 c4_i32_1
  let c1_i32_6 : BitVec 32 := 1#32
  let v20 : BitVec 32 := Scalar.subi v5 c1_i32_6
  let v21 : BitVec 32 := Scalar.select v19 v20 v5
  let c512_i32 : BitVec 32 := 512#32
  let v22 : BitVec 32 := Scalar.muli v21 c512_i32
  let c4_i32_9 : BitVec 32 := 4#32
  let v25 : BitVec 32 := Scalar.remsi v2 c4_i32_9
  let v273 : BitVec 32 := Scalar.addi v25 c1_i32_105
  let c4_i32_106 : BitVec 32 := 4#32
  let v274 : BitVec 32 := Scalar.remsi v273 c4_i32_106
  let c128_i32 : BitVec 32 := 128#32
  let v275 : BitVec 32 := Scalar.muli v274 c128_i32
  let v276 : BitVec 32 := Scalar.addi v22 v275
  let v277 : Index := Scalar.indexCast v276
  let c0_107 : Index := 0#32
  ![v277.toNat, 0]
def k0_off8 (d0 : Dev nD) (c1_i32_105 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v25 : BitVec 32 := Scalar.remsi v2 c4_i32_9
  let v273 : BitVec 32 := Scalar.addi v25 c1_i32_105
  let c4_i32_106 : BitVec 32 := 4#32
  let v274 : BitVec 32 := Scalar.remsi v273 c4_i32_106
  let c128_i32_120 : BitVec 32 := 128#32
  let v329 : BitVec 32 := Scalar.muli v274 c128_i32_120
  let v330 : Index := Scalar.indexCast v329
  let c0_121 : Index := 0#32
  ![v330.toNat, 0]
def k0_dev6 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v6 : BitVec 1 := Scalar.cmpi .sgt v2 c0_i32
  let v7 : BitVec 32 := Scalar.extui v6
  let c0_i32_2 : BitVec 32 := 0#32
  let v8 : BitVec 1 := Scalar.cmpi .slt v2 c0_i32_2
  let v9 : BitVec 32 := Scalar.extui v8
  let v10 : BitVec 32 := Scalar.subi v7 v9
  let c4_i32_1 : BitVec 32 := 4#32
  let c0_i32_3 : BitVec 32 := 0#32
  let v11 : BitVec 1 := Scalar.cmpi .sgt c4_i32_1 c0_i32_3
  let v12 : BitVec 32 := Scalar.extui v11
  let c0_i32_4 : BitVec 32 := 0#32
  let v13 : BitVec 1 := Scalar.cmpi .slt c4_i32_1 c0_i32_4
  let v14 : BitVec 32 := Scalar.extui v13
  let v15 : BitVec 32 := Scalar.subi v12 v14
  let v16 : BitVec 1 := Scalar.cmpi .ne v10 v15
  let v17 : BitVec 32 := Scalar.remsi v2 c4_i32_1
  let c0_i32_5 : BitVec 32 := 0#32
  let v18 : BitVec 1 := Scalar.cmpi .ne v17 c0_i32_5
  let v19 : BitVec 1 := Scalar.andi v16 v18
  let v5 : BitVec 32 := Scalar.divsi v2 c4_i32_1
  let c1_i32_6 : BitVec 32 := 1#32
  let v20 : BitVec 32 := Scalar.subi v5 c1_i32_6
  let v21 : BitVec 32 := Scalar.select v19 v20 v5
  let c4_i32_126 : BitVec 32 := 4#32
  let v337 : BitVec 32 := Scalar.muli v21 c4_i32_126
  let c4_i32_9 : BitVec 32 := 4#32
  let v25 : BitVec 32 := Scalar.remsi v2 c4_i32_9
  let c1_i32_105 : BitVec 32 := 1#32
  let v273 : BitVec 32 := Scalar.addi v25 c1_i32_105
  let c4_i32_106 : BitVec 32 := 4#32
  let v274 : BitVec 32 := Scalar.remsi v273 c4_i32_106
  let v338 : BitVec 32 := Scalar.addi v337 v274
  let c1_i32_131 : BitVec 32 := 1#32
  let v339 : BitVec 32 := Scalar.muli v338 c1_i32_131
  let v340 : BitVec 32 := Scalar.addi c0_i32_132 v339
  v340.toNat
def k0_dev7 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v6 : BitVec 1 := Scalar.cmpi .sgt v2 c0_i32
  let v7 : BitVec 32 := Scalar.extui v6
  let c0_i32_2 : BitVec 32 := 0#32
  let v8 : BitVec 1 := Scalar.cmpi .slt v2 c0_i32_2
  let v9 : BitVec 32 := Scalar.extui v8
  let v10 : BitVec 32 := Scalar.subi v7 v9
  let c4_i32_1 : BitVec 32 := 4#32
  let c0_i32_3 : BitVec 32 := 0#32
  let v11 : BitVec 1 := Scalar.cmpi .sgt c4_i32_1 c0_i32_3
  let v12 : BitVec 32 := Scalar.extui v11
  let c0_i32_4 : BitVec 32 := 0#32
  let v13 : BitVec 1 := Scalar.cmpi .slt c4_i32_1 c0_i32_4
  let v14 : BitVec 32 := Scalar.extui v13
  let v15 : BitVec 32 := Scalar.subi v12 v14
  let v16 : BitVec 1 := Scalar.cmpi .ne v10 v15
  let v17 : BitVec 32 := Scalar.remsi v2 c4_i32_1
  let c0_i32_5 : BitVec 32 := 0#32
  let v18 : BitVec 1 := Scalar.cmpi .ne v17 c0_i32_5
  let v19 : BitVec 1 := Scalar.andi v16 v18
  let v5 : BitVec 32 := Scalar.divsi v2 c4_i32_1
  let c1_i32_6 : BitVec 32 := 1#32
  let v20 : BitVec 32 := Scalar.subi v5 c1_i32_6
  let v21 : BitVec 32 := Scalar.select v19 v20 v5
  let c4_i32_158 : BitVec 32 := 4#32
  let v413 : BitVec 32 := Scalar.muli v21 c4_i32_158
  let c4_i32_9 : BitVec 32 := 4#32
  let v25 : BitVec 32 := Scalar.remsi v2 c4_i32_9
  let c2_i32_137 : BitVec 32 := 2#32
  let v349 : BitVec 32 := Scalar.addi v25 c2_i32_137
  let c4_i32_138 : BitVec 32 := 4#32
  let v350 : BitVec 32 := Scalar.remsi v349 c4_i32_138
  let v414 : BitVec 32 := Scalar.addi v413 v350
  let c1_i32_163 : BitVec 32 := 1#32
  let v415 : BitVec 32 := Scalar.muli v414 c1_i32_163
  let v416 : BitVec 32 := Scalar.addi c0_i32_164 v415
  v416.toNat
def k0_dev8 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v6 : BitVec 1 := Scalar.cmpi .sgt v2 c0_i32
  let v7 : BitVec 32 := Scalar.extui v6
  let c0_i32_2 : BitVec 32 := 0#32
  let v8 : BitVec 1 := Scalar.cmpi .slt v2 c0_i32_2
  let v9 : BitVec 32 := Scalar.extui v8
  let v10 : BitVec 32 := Scalar.subi v7 v9
  let c4_i32_1 : BitVec 32 := 4#32
  let c0_i32_3 : BitVec 32 := 0#32
  let v11 : BitVec 1 := Scalar.cmpi .sgt c4_i32_1 c0_i32_3
  let v12 : BitVec 32 := Scalar.extui v11
  let c0_i32_4 : BitVec 32 := 0#32
  let v13 : BitVec 1 := Scalar.cmpi .slt c4_i32_1 c0_i32_4
  let v14 : BitVec 32 := Scalar.extui v13
  let v15 : BitVec 32 := Scalar.subi v12 v14
  let v16 : BitVec 1 := Scalar.cmpi .ne v10 v15
  let v17 : BitVec 32 := Scalar.remsi v2 c4_i32_1
  let c0_i32_5 : BitVec 32 := 0#32
  let v18 : BitVec 1 := Scalar.cmpi .ne v17 c0_i32_5
  let v19 : BitVec 1 := Scalar.andi v16 v18
  let v5 : BitVec 32 := Scalar.divsi v2 c4_i32_1
  let c1_i32_6 : BitVec 32 := 1#32
  let v20 : BitVec 32 := Scalar.subi v5 c1_i32_6
  let v21 : BitVec 32 := Scalar.select v19 v20 v5
  let c4_i32_190 : BitVec 32 := 4#32
  let v489 : BitVec 32 := Scalar.muli v21 c4_i32_190
  let c4_i32_9 : BitVec 32 := 4#32
  let v25 : BitVec 32 := Scalar.remsi v2 c4_i32_9
  let c3_i32_169 : BitVec 32 := 3#32
  let v425 : BitVec 32 := Scalar.addi v25 c3_i32_169
  let c4_i32_170 : BitVec 32 := 4#32
  let v426 : BitVec 32 := Scalar.remsi v425 c4_i32_170
  let v490 : BitVec 32 := Scalar.addi v489 v426
  let c1_i32_195 : BitVec 32 := 1#32
  let v491 : BitVec 32 := Scalar.muli v490 c1_i32_195
  let v492 : BitVec 32 := Scalar.addi c0_i32_196 v491
  v492.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_201 : BitVec 32 := 128#32
  let v501 : BitVec 32 := Scalar.muli v2 c128_i32_201
  let v502 : Index := Scalar.indexCast v501
  let c0_202 : Index := 0#32
  ![v502.toNat, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v25 : BitVec 32 := Scalar.remsi v2 c4_i32_9
  let c128_i32_206 : BitVec 32 := 128#32
  let v508 : BitVec 32 := Scalar.muli v25 c128_i32_206
  let v509 : Index := Scalar.indexCast v508
  let c0_207 : Index := 0#32
  ![v509.toNat, 0]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_210 : BitVec 32 := 128#32
  let v514 : BitVec 32 := Scalar.muli v2 c128_i32_210
  let v515 : Index := Scalar.indexCast v514
  let c0_211 : Index := 0#32
  ![v515.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x512 : Shape := ⟨2, ![1024, 512]⟩
abbrev S512x32 : Shape := ⟨2, ![512, 32]⟩
abbrev S1024x1 : Shape := ⟨2, ![1024, 1]⟩
abbrev S32x512x1024 : Shape := ⟨3, ![32, 512, 1024]⟩
abbrev S512x1024 : Shape := ⟨2, ![512, 1024]⟩
abbrev S1024x32 : Shape := ⟨2, ![1024, 32]⟩
abbrev S_ : Shape := ⟨0, ![]⟩
abbrev S1024 : Shape := ⟨1, ![1024]⟩
abbrev S1024x1024 : Shape := ⟨2, ![1024, 1024]⟩
abbrev S1024x32x1024 : Shape := ⟨3, ![1024, 32, 1024]⟩
abbrev S32 : Shape := ⟨1, ![32]⟩
abbrev S1x32 : Shape := ⟨2, ![1, 32]⟩
abbrev S1024x32x1 : Shape := ⟨3, ![1024, 32, 1]⟩

abbrev nBuf : Space → Nat
  | .hbm => 36
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x32, .f32⟩
  | .hbm, ⟨2, _⟩ => ⟨S1024x1, .i32⟩
  | .hbm, ⟨3, _⟩ => ⟨S32x512x1024, .f32⟩
  | .hbm, ⟨4, _⟩ => ⟨S512x1024, .f32⟩
  | .hbm, ⟨5, _⟩ => ⟨S1024x32, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x32, .f32⟩
  | .hbm, ⟨10, _⟩ => ⟨S1024x32, .f32⟩
  | .hbm, ⟨11, _⟩ => ⟨S1024x32, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x32, .f32⟩
  | .hbm, ⟨16, _⟩ => ⟨S1024x32, .f32⟩
  | .hbm, ⟨17, _⟩ => ⟨S1024x1024, .f32⟩
  | .hbm, ⟨18, _⟩ => ⟨S1024x32x1024, .f32⟩
  | .hbm, ⟨19, _⟩ => ⟨S32, .i32⟩
  | .hbm, ⟨20, _⟩ => ⟨S1x32, .i32⟩
  | .hbm, ⟨21, _⟩ => ⟨S1024x32, .i32⟩
  | .hbm, ⟨22, _⟩ => ⟨S1024x32, .i32⟩
  | .hbm, ⟨23, _⟩ => ⟨S1024x32, .i1⟩
  | .hbm, ⟨24, _⟩ => ⟨S1024x32x1, .i1⟩
  | .hbm, ⟨25, _⟩ => ⟨S1024x32x1, .f32⟩
  | .hbm, ⟨26, _⟩ => ⟨S1024x32x1024, .f32⟩
  | .hbm, ⟨27, _⟩ => ⟨S1024x32x1024, .f32⟩
  | .hbm, ⟨28, _⟩ => ⟨S_, .f32⟩
  | .hbm, ⟨29, _⟩ => ⟨S_, .f32⟩
  | .hbm, ⟨30, _⟩ => ⟨S1024x32x1024, .i1⟩
  | .hbm, ⟨31, _⟩ => ⟨S1024x32x1024, .f32⟩
  | .hbm, ⟨32, _⟩ => ⟨S1024x32x1024, .f32⟩
  | .hbm, ⟨33, _⟩ => ⟨S_, .f32⟩
  | .hbm, ⟨34, _⟩ => ⟨S1024x1024, .f32⟩
  | .hbm, ⟨35, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Proof.Values.lean ====
/-
What each device's buffers hold, step by step: the values the kernel computes, as compositions of its own
vector operations, from the blocks the devices are given and the parts the other devices send.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.MoE

open Cert.KernelIdeal Cert.KernelIdeal.Gen

open Idealize.ShloMosaic
open Idealize.ShloMosaic.TcCoe
open Idealize.SL Idealize.SL.Sem

variable {F : FTy → Type} [FloatOps F]

/-! ## The devices -/

set_option backward.proofsInPublic true in
/-- The device at the same place of the other plane. -/
def pt (c : Dev nD) : Dev nD := ⟨(c.val + 4) % 8, Nat.mod_lt _ (by decide)⟩
set_option backward.proofsInPublic true in
/-- The device one place further around the same plane. -/
def pl1 (c : Dev nD) : Dev nD := ⟨c.val / 4 * 4 + (c.val % 4 + 1) % 4, by have h := c.isLt; change c.val < 8 at h; change _ < 8; omega⟩
set_option backward.proofsInPublic true in
/-- Two places further. -/
def pl2 (c : Dev nD) : Dev nD := ⟨c.val / 4 * 4 + (c.val % 4 + 2) % 4, by have h := c.isLt; change c.val < 8 at h; change _ < 8; omega⟩
set_option backward.proofsInPublic true in
/-- Three places further. -/
def pl3 (c : Dev nD) : Dev nD := ⟨c.val / 4 * 4 + (c.val % 4 + 3) % 4, by have h := c.isLt; change c.val < 8 at h; change _ < 8; omega⟩

/-- The partner of the partner. -/
theorem pt_pt (c : Dev nD) : pt (pt c) = c := by revert c; decide
/-- One on from three on. -/
theorem pl1_pl3 (c : Dev nD) : pl1 (pl3 c) = c := by revert c; decide
/-- Three on from one on. -/
theorem pl3_pl1 (c : Dev nD) : pl3 (pl1 c) = c := by revert c; decide
/-- Two on from two on. -/
theorem pl2_pl2 (c : Dev nD) : pl2 (pl2 c) = c := by revert c; decide

/-- The devices the kernel computes are these: the partner, -/
theorem dev1_eq (c : Dev nD) : (⟨k0_dev1 c, k0_dev1_lt c⟩ : Dev nD) = pt c := Fin.ext (k0_dev1_eq c)
/-- the next in the plane, -/
theorem dev2_eq (c : Dev nD) : (⟨k0_dev2 c, k0_dev2_lt c⟩ : Dev nD) = pl1 c := Fin.ext (by revert c; decide +kernel)
/-- the second, -/
theorem dev3_eq (c : Dev nD) : (⟨k0_dev3 c, k0_dev3_lt c⟩ : Dev nD) = pl2 c := Fin.ext (by revert c; decide +kernel)
/-- the third, -/
theorem dev4_eq (c : Dev nD) : (⟨k0_dev4 c, k0_dev4_lt c⟩ : Dev nD) = pl3 c := Fin.ext (by revert c; decide +kernel)
/-- and for the copies the partner, -/
theorem dev5_eq (c : Dev nD) : (⟨k0_dev5 c, k0_dev5_lt c⟩ : Dev nD) = pt c := Fin.ext (k0_dev5_eq c)
/-- the next, -/
theorem dev6_eq (c : Dev nD) : (⟨k0_dev6 c, k0_dev6_lt c⟩ : Dev nD) = pl1 c := Fin.ext (by revert c; decide +kernel)
/-- the second, -/
theorem dev7_eq (c : Dev nD) : (⟨k0_dev7 c, k0_dev7_lt c⟩ : Dev nD) = pl2 c := Fin.ext (by revert c; decide +kernel)
/-- the third. -/
theorem dev8_eq (c : Dev nD) : (⟨k0_dev8 c, k0_dev8_lt c⟩ : Dev nD) = pl3 c := Fin.ext (by revert c; decide +kernel)

/-! ## The buffers -/

abbrev aM : Memref sig .tc .vmem S1024x512 .f32 := Memref.whole cc0_stg0_0
abbrev rM : Memref sig .tc .vmem S512x32 .f32 := Memref.whole cc0_stg1_0
abbrev iM : Memref sig .tc .vmem S1024x1 .i32 := Memref.whole cc0_stg2_0
abbrev eM : Memref sig .tc .vmem S4x512x1024 .f32 := Memref.whole cc0_stg3_0
abbrev hM : Memref sig .tc .vmem S512x1024 .f32 := Memref.whole cc0_stg4_0
abbrev oM : Memref sig .tc .vmem S128x1024 .f32 := Memref.whole cc0_stg5_0
abbrev xbM : Memref sig .tc .vmem S1024x512 .bf16 := Memref.whole cc0_scratch0
abbrev cbM : Memref sig .tc .vmem S1024x4 .bf16 := Memref.whole cc0_scratch1
abbrev acM : Memref sig .tc .vmem S512x1024 .bf16 := Memref.whole cc0_scratch2
abbrev saM : Memref sig .tc .vmem S112x1024 .bf16 := Memref.whole cc0_scratch3
abbrev raM : Memref sig .tc .vmem S112x1024 .bf16 := Memref.whole cc0_scratch4
abbrev sbM : Memref sig .tc .vmem S3x64x1024 .bf16 := Memref.whole cc0_scratch5
abbrev rbM : Memref sig .tc .vmem S3x64x1024 .bf16 := Memref.whole cc0_scratch6

/-! ## The scalars -/

/-- A device's number, -/
def wMe (c : Dev nD) : BitVec 32 := BitVec.ofNat 32 c.val
/-- its partner's, -/
def wPt (c : Dev nD) : BitVec 32 := BitVec.ofNat 32 ((c.val + 4) % 8)
/-- its plane, -/
def wPlane (c : Dev nD) : BitVec 32 := BitVec.ofNat 32 (c.val / 4)
/-- its half's first row, -/
def wMine (c : Dev nD) : BitVec 32 := BitVec.ofNat 32 (512 * (c.val / 4))
/-- the other half's first row, -/
def wOther (c : Dev nD) : BitVec 32 := BitVec.ofNat 32 (512 * (1 - c.val / 4))
/-- its place in its plane. -/
def wMp (c : Dev nD) : BitVec 32 := BitVec.ofNat 32 (c.val % 4)

/-! ## The contents -/

variable (m : (ℓ : Loc nD τ sig) → Buf (Elt F) ℓ)

/-- The blocks device `c` is given. -/
def xV (c : Dev nD) : Vec F S1024x512 .f32 := (win0_0.blk (0 : Fin 1)).view.read (Elt F) (m ((c : Thread nD τ).loc main_arg0))
/-- The gate's weights. -/
def rwV (c : Dev nD) : Vec F S512x32 .f32 := (win0_1.blk (0 : Fin 1)).view.read (Elt F) (m ((c : Thread nD τ).loc main_arg1))
/-- The routes. -/
def ixV (c : Dev nD) : Vec F S1024x1 .i32 := (win0_2.blk (0 : Fin 1)).view.read (Elt F) (m ((c : Thread nD τ).loc main_arg2))
/-- The device's experts' weights. -/
def weV (c : Dev nD) : Vec F S4x512x1024 .f32 := (win0_3.blk (0 : Fin 1)).view.read (Elt F) (m ((c : Thread nD τ).loc main_arg3))
/-- The shared expert's weights. -/
def wsV (c : Dev nD) : Vec F S512x1024 .f32 := (win0_4.blk (0 : Fin 1)).view.read (Elt F) (m ((c : Thread nD τ).loc main_arg4))

/-- The tokens, the local gates, the local experts' weights side by side. -/
def xbV (c : Dev nD) : Vec F S1024x512 .bf16 := k0_pay4 (k0_pay1 (xV m c))
/-- The local gates. -/
def cbV (c : Dev nD) : Vec F S1024x4 .bf16 := k0_pay5 (wMe c) (k0_pay2 (F := F) (ixV m c)) (k0_pay3 (xV m c) (rwV m c) (ixV m c))
/-- The local experts' weights side by side. -/
def ewV (c : Dev nD) : FVec F S2048x1024 .bf16 := k0_pay6 (weV m c)

/-- The routes of the other half, of the own half, of a chunk to be sent, of the own chunk. -/
def ixO (c : Dev nD) : Vec F S512x1 .i32 :=
  iM.view.readAt (Elt F) (Rect.unit (s := S1024x1) (k0_off1 c) S512x1.size (k0_off1_inb c)).toLoadRect (ixV m c)
/-- The routes of the own half. -/
def ixM (c : Dev nD) : Vec F S512x1 .i32 :=
  iM.view.readAt (Elt F) (Rect.unit (s := S1024x1) (k0_off4 c) S512x1.size (k0_off4_inb c)).toLoadRect (ixV m c)
/-- The routes of the chunk sent first, -/
def ixS1 (c : Dev nD) : Vec F S128x1 .i32 :=
  iM.view.readAt (Elt F) (Rect.unit (s := S1024x1) (k0_off7 c 1#32) S128x1.size (k0_off7_inb c 0)).toLoadRect (ixV m c)
/-- second, -/
def ixS2 (c : Dev nD) : Vec F S128x1 .i32 :=
  iM.view.readAt (Elt F) (Rect.unit (s := S1024x1) (k0_off7 c 2#32) S128x1.size (k0_off7_inb c 1)).toLoadRect (ixV m c)
/-- third. -/
def ixS3 (c : Dev nD) : Vec F S128x1 .i32 :=
  iM.view.readAt (Elt F) (Rect.unit (s := S1024x1) (k0_off7 c 3#32) S128x1.size (k0_off7_inb c 2)).toLoadRect (ixV m c)
/-- The routes of the own chunk. -/
def ixC (c : Dev nD) : Vec F S128x1 .i32 :=
  iM.view.readAt (Elt F) (Rect.unit (s := S1024x1) (k0_off11 c) S128x1.size (k0_off11_inb c)).toLoadRect (ixV m c)

/-- What device `c` sends to the other plane: its experts' partial rows of the other half, packed. -/
def saV (c : Dev nD) : Vec F S112x1024 .bf16 :=
  k0_pay11 (k0_pay10 (wMe c) (ewV m c) (k0_pay7 (F := F) (ixO m c)) 4#32 (k0_pay8 (F := F) (ixO m c)) (k0_pay9 (F := F) (ixO m c)) 1#32
    (xbM.view.readAt (Elt F) (Rect.unit (s := S1024x512) (k0_off2 c) S512x512.size (k0_off2_inb c)).toLoadRect (xbV m c))
    (cbM.view.readAt (Elt F) (Rect.unit (s := S1024x4) (k0_off3 c) S512x4.size (k0_off3_inb c)).toLoadRect (cbV m c)))

/-- The own partial rows of the own half, -/
def ac0V (c : Dev nD) : Vec F S512x1024 .bf16 :=
  k0_pay15 (ewV m c) (k0_pay13 (F := F) (wMe c) (ixM m c)) k0_pay14
    (xbM.view.readAt (Elt F) (Rect.unit (s := S1024x512) (k0_off5 c) S512x512.size (k0_off5_inb c)).toLoadRect (xbV m c))
    (cbM.view.readAt (Elt F) (Rect.unit (s := S1024x4) (k0_off6 c) S512x4.size (k0_off6_inb c)).toLoadRect (cbV m c))

/-- and with the other plane's rows put in. -/
def acV (c : Dev nD) : Vec F S512x1024 .bf16 :=
  k0_pay17 (k0_pay16 (wPt c) (k0_pay12 (F := F) (ixM m c))) (ac0V m c) (saV m (pt c))

/-- What device `c` sends around its plane. -/
def sb1V (c : Dev nD) : Vec F S1x64x1024 .bf16 :=
  k0_pay22 (k0_pay21 (wMp c) (k0_pay18 (F := F) (ixS1 m c)) 4#32 (k0_pay19 (F := F) (ixS1 m c)) (k0_pay20 (F := F) (ixS1 m c)) 0#32
    (acM.view.readAt (Elt F) (Rect.unit (s := S512x1024) (k0_off8 c 1#32) S128x1024.size (k0_off8_inb c 0)).toLoadRect (acV m c)))
/-- The second send. -/
def sb2V (c : Dev nD) : Vec F S1x64x1024 .bf16 :=
  k0_pay26 (wMp c) (k0_pay23 (F := F) (ixS2 m c)) 4#32 (k0_pay24 (F := F) (ixS2 m c)) (k0_pay25 (F := F) (ixS2 m c)) 1#32 0#1
    (acM.view.readAt (Elt F) (Rect.unit (s := S512x1024) (k0_off8 c 2#32) S128x1024.size (k0_off8_inb c 1)).toLoadRect (acV m c))
/-- The third send. -/
def sb3V (c : Dev nD) : Vec F S1x64x1024 .bf16 :=
  k0_pay31 (wMp c) (k0_pay28 (F := F) (ixS3 m c)) (k0_pay29 (F := F) (ixS3 m c)) (k0_pay30 (F := F) (ixS3 m c))
    (acM.view.readAt (Elt F) (Rect.unit (s := S512x1024) (k0_off8 c 3#32) S128x1024.size (k0_off8_inb c 2)).toLoadRect (acV m c))

/-- The index within one slot of an index of the three-slot buffers. -/
def inSlot (i : S3x64x1024.Idx) : S1x64x1024.Idx :=
  fun | 0 => (⟨0, by decide⟩ : Fin 1) | 1 => (⟨(i 1).val, (i 1).isLt⟩ : Fin 64) | 2 => (⟨(i 2).val, (i 2).isLt⟩ : Fin 1024)

/-- The send buffer: one slot a peer; -/
def sbV (c : Dev nD) : Vec F S3x64x1024 .bf16 := fun i =>
  if (i 0).val = 0 then sb1V m c (inSlot i) else if (i 0).val = 1 then sb2V m c (inSlot i) else sb3V m c (inSlot i)
/-- the landing buffer: slot `k` from the device `k + 1` places further around. -/
def rbV (c : Dev nD) : Vec F S3x64x1024 .bf16 := fun i =>
  if (i 0).val = 0 then sb3V m (pl1 c) (inSlot i) else if (i 0).val = 1 then sb2V m (pl2 c) (inSlot i) else sb1V m (pl3 c) (inSlot i)

/-- The own chunk: the shared expert and the own plane half's accumulated rows; -/
def o0V (c : Dev nD) : Vec F S128x1024 .f32 :=
  k0_pay32 (aM.view.readAt (Elt F) (Rect.unit (s := S1024x512) (k0_off9 c) S128x512.size (k0_off9_inb c)).toLoadRect (xV m c)) (wsV m c)
    (acM.view.readAt (Elt F) (Rect.unit (s := S512x1024) (k0_off10 c) S128x1024.size (k0_off10_inb c)).toLoadRect (acV m c))

/-- the three unpacking matrices; -/
def g0 (c : Dev nD) : IVec S128x1 32 := k0_pay33 (F := F) (ixC m c)
/-- The second part. -/
def g1 (c : Dev nD) : IVec S128x1 32 := k0_pay34 (F := F) (ixC m c)
/-- The third part. -/
def g2 (c : Dev nD) : IVec S128x1 32 := k0_pay35 (F := F) (ixC m c)
/-- The first unpacking matrix, -/
def u1V (c : Dev nD) : FVec F S128x64 .bf16 := k0_pay37 (F := F) (wMp c) (g0 m c) 4#32 (g1 m c) (g2 m c) 1#32 0#1
/-- the second, -/
def u2V (c : Dev nD) : FVec F S128x64 .bf16 := k0_pay40 (F := F) (k0_pay38 (g0 m c) 4#32 (g1 m c) (g2 m c) 1#32 0#1) (k0_pay39 (wMp c))
/-- the third. -/
def u3V (c : Dev nD) : FVec F S128x64 .bf16 := k0_pay42 (F := F) (k0_pay41 (F := F) (wMp c) (k0_pay36 (g0 m c) 4#32 (g1 m c) (g2 m c) 1#32 0#1))

/-- and the three peers' rows put in, one after the other. -/
def o1V (c : Dev nD) : Vec F S128x1024 .f32 := k0_pay43 (u1V m c) (o0V m c) (sb1V m (pl3 c))
/-- After the second peer's rows. -/
def o2V (c : Dev nD) : Vec F S128x1024 .f32 := k0_pay45 (u2V m c) (k0_pay44 (o1V m c)) (sb2V m (pl2 c))
/-- After the third's: the result. -/
def outV (c : Dev nD) : Vec F S128x1024 .f32 := k0_pay46 (u3V m c) (o2V m c) (sb3V m (pl1 c))

end Cert.MoE

end
-- ==== Proof.Protocol.lean ====
/-
The protocol between the devices: which cells there are, who pays each of them what, and what each payment hands over.

Every device has nine cells of one round each. Its barrier cell is paid one unit by the device at its place of the
other plane and one by each of the three other devices of its plane; each unit hands over the landing buffer (or
the slot of it) the owner will copy into. Its four receive cells are paid by the copies landing in its memory; each
hands over the landed rows. Its four send cells are paid when its own copies have left; each hands the buffer back.
-/
module

public import proofs.«01_k».proof.Proof.Values

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's, and the devices' own with four duty names -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The slots -/

abbrev q0 : Rect S3x64x1024 := Rect.unit (s := S3x64x1024) ![0, 0, 0] S1x64x1024.size inb_S3x64x1024_S1x64x1024_0_0_0
abbrev q1 : Rect S3x64x1024 := Rect.unit (s := S3x64x1024) ![1, 0, 0] S1x64x1024.size inb_S3x64x1024_S1x64x1024_1_0_0
abbrev q2 : Rect S3x64x1024 := Rect.unit (s := S3x64x1024) ![2, 0, 0] S1x64x1024.size inb_S3x64x1024_S1x64x1024_2_0_0
abbrev sbS0 : Memref sig .tc .vmem S64x1024 .bf16 := (sbM.slice q0 (fun _ => rfl)).squeeze S64x1024 squeezes_S1x64x1024_S64x1024
abbrev sbS1 : Memref sig .tc .vmem S64x1024 .bf16 := (sbM.slice q1 (fun _ => rfl)).squeeze S64x1024 squeezes_S1x64x1024_S64x1024
abbrev sbS2 : Memref sig .tc .vmem S64x1024 .bf16 := (sbM.slice q2 (fun _ => rfl)).squeeze S64x1024 squeezes_S1x64x1024_S64x1024
abbrev rbS0 : Memref sig .tc .vmem S64x1024 .bf16 := (rbM.slice q0 (fun _ => rfl)).squeeze S64x1024 squeezes_S1x64x1024_S64x1024
abbrev rbS1 : Memref sig .tc .vmem S64x1024 .bf16 := (rbM.slice q1 (fun _ => rfl)).squeeze S64x1024 squeezes_S1x64x1024_S64x1024
abbrev rbS2 : Memref sig .tc .vmem S64x1024 .bf16 := (rbM.slice q2 (fun _ => rfl)).squeeze S64x1024 squeezes_S1x64x1024_S64x1024

/-! ## The cells -/

/-- The barrier semaphore of the launch, and the send and receive semaphores. -/
abbrev barS : Sem sig := (SemArray.scalar (sig.barrier 0 rfl) : Sems sig S_).sem
abbrev sS0 : DmaSem sig := ((cc0_scratch7.slice (Rect.unit (s := S4) ![0] S1.size inb_S4_S1_0) : DmaSems sig S1).squeeze S_ squeezes_S1_S_ : DmaSems sig S_).sem
abbrev sS1 : DmaSem sig := ((cc0_scratch7.slice (Rect.unit (s := S4) ![1] S1.size inb_S4_S1_1) : DmaSems sig S1).squeeze S_ squeezes_S1_S_ : DmaSems sig S_).sem
abbrev sS2 : DmaSem sig := ((cc0_scratch7.slice (Rect.unit (s := S4) ![2] S1.size inb_S4_S1_2) : DmaSems sig S1).squeeze S_ squeezes_S1_S_ : DmaSems sig S_).sem
abbrev sS3 : DmaSem sig := ((cc0_scratch7.slice (Rect.unit (s := S4) ![3] S1.size inb_S4_S1_3) : DmaSems sig S1).squeeze S_ squeezes_S1_S_ : DmaSems sig S_).sem
abbrev rS0 : DmaSem sig := ((cc0_scratch8.slice (Rect.unit (s := S4) ![0] S1.size inb_S4_S1_0) : DmaSems sig S1).squeeze S_ squeezes_S1_S_ : DmaSems sig S_).sem
abbrev rS1 : DmaSem sig := ((cc0_scratch8.slice (Rect.unit (s := S4) ![1] S1.size inb_S4_S1_1) : DmaSems sig S1).squeeze S_ squeezes_S1_S_ : DmaSems sig S_).sem
abbrev rS2 : DmaSem sig := ((cc0_scratch8.slice (Rect.unit (s := S4) ![2] S1.size inb_S4_S1_2) : DmaSems sig S1).squeeze S_ squeezes_S1_S_ : DmaSems sig S_).sem
abbrev rS3 : DmaSem sig := ((cc0_scratch8.slice (Rect.unit (s := S4) ![3] S1.size inb_S4_S1_3) : DmaSems sig S1).squeeze S_ squeezes_S1_S_ : DmaSems sig S_).sem

/-- The nine semaphores: the barrier, the four send, the four receive ones. -/
abbrev csem : Fin 9 → SemLoc sig := fun
  | 0 => .reg barS
  | 1 => .dma sS0 | 2 => .dma sS1 | 3 => .dma sS2 | 4 => .dma sS3
  | 5 => .dma rS0 | 6 => .dma rS1 | 7 => .dma rS2 | 8 => .dma rS3
/-- The eight the launch itself scopes. -/
abbrev osem : Fin 8 → SemLoc sig := fun
  | 0 => .dma sS0 | 1 => .dma sS1 | 2 => .dma sS2 | 3 => .dma sS3
  | 4 => .dma rS0 | 5 => .dma rS1 | 6 => .dma rS2 | 7 => .dma rS3
abbrev kcell (ck : Dev nD × Fin 9) : GSem nD τ sig := ((ck.1 : Thread nD τ), csem ck.2)

/-- Which of the nine a semaphore is. -/
def cix (sm : SemLoc sig) : Option (Fin 9) := (List.finRange 9).find? fun k => decide (csem k = sm)
theorem cix_csem (k : Fin 9) : cix (csem k) = some k := by revert k; decide

abbrev NA : ℕ := (raM : Memref sig .tc .vmem S112x1024 .bf16).view.dmaCredit
abbrev NB : ℕ := (rbS0 : Memref sig .tc .vmem S64x1024 .bf16).view.dmaCredit
theorem NA_pos : 0 < NA := View.dmaCredit_pos _ (by decide)
theorem NB_pos : 0 < NB := View.dmaCredit_pos _ (by decide)

/-! ## Holding a buffer's elements -/

/-- Device `c` holds the elements under `M`, at contents `f`. -/
def hold {s : Shape} {e : EltTy} (M : Memref sig .tc .vmem s e) (c : Dev nD) (f : Buf (Elt F) (M.view.loc (c : Thread nD τ))) : sProp 𝕄 :=
  M.view.loc (c : Thread nD τ) ↦[M.view.set]{fullShare} f

omit [FloatOps F] in
instance hold_storable {s : Shape} {e : EltTy} (M : Memref sig .tc .vmem s e) (c : Dev nD) (f : Buf (Elt F) (M.view.loc (c : Thread nD τ))) :
    BI.Storable (upEmb : UEmb _ 𝕄) (hold (F := F) M c f) := by unfold hold; infer_instance

/-! ## The schedule -/

/-- What the barrier's units hand device `c`: the landing buffers its copies go to. -/
def barPay (c : Dev nD) : Fin 4 → sProp 𝕄 := fun
  | 0 => iprop(∃ f, hold raM (pt c) f)
  | 1 => iprop(∃ f, hold rbS0 (pl3 c) f)
  | 2 => iprop(∃ f, hold rbS1 (pl2 c) f)
  | 3 => iprop(∃ f, hold rbS2 (pl1 c) f)

/-- What the nine cells' payments hand over. -/
def pay (c : Dev nD) : Fin 9 → Fin 4 → sProp 𝕄 := fun k d => match k with
  | 0 => barPay c d
  | 1 => hold sbS0 c (sbV m c) | 2 => hold sbS1 c (sbV m c) | 3 => hold sbS2 c (sbV m c) | 4 => hold saM c (saV m c)
  | 5 => hold rbS0 c (rbV m c) | 6 => hold rbS1 c (rbV m c) | 7 => hold rbS2 c (rbV m c) | 8 => hold raM c (saV m (pt c))

def dut : Fin 9 → Finset (Fin 4) := fun | 0 => Finset.univ | _ => {0}
def amt : Fin 9 → ℕ := fun | 0 => 1 | 4 => NA | 8 => NA | 1 => NB | 2 => NB | 3 => NB | 5 => NB | 6 => NB | 7 => NB
theorem amt_pos (k : Fin 9) : 0 < amt k := by
  fin_cases k <;> first | exact Nat.one_pos | exact NB_pos | exact NA_pos

def dutAt (o : Option (Fin 9)) : Finset (Fin 4) := o.elim ∅ dut
def amtAt (o : Option (Fin 9)) : ℕ := o.elim 1 amt
def payAt (c : Dev nD) (o : Option (Fin 9)) (d : Fin 4) : sProp 𝕄 := o.elim iprop(emp) fun k => pay m c k d

omit [FloatOps F] in
instance barPay_storable (c : Dev nD) (d : Fin 4) : BI.Storable (upEmb : UEmb _ 𝕄) (barPay (F := F) c d) := by
  fin_cases d <;> (dsimp only [barPay]; infer_instance)
instance pay_storable (c : Dev nD) (k : Fin 9) (d : Fin 4) : BI.Storable (upEmb : UEmb _ 𝕄) (pay (F := F) m c k d) := by
  fin_cases k <;> (dsimp only [pay]; infer_instance)
instance payAt_storable (c : Dev nD) (o : Option (Fin 9)) (d : Fin 4) : BI.Storable (upEmb : UEmb _ 𝕄) (payAt (F := F) m c o d) := by
  cases o
  · dsimp only [payAt, Option.elim]; infer_instance
  · dsimp only [payAt, Option.elim]; infer_instance

/-- One round. -/
def sched : Rounds.Schedule (GSem nD τ sig) (Fin 4) 𝕄 where
  duties g r := if r = 0 ∧ g.1.2 = .tc then dutAt (cix g.2) else ∅
  unitless _ := False
  amount g _ _ := amtAt (cix g.2)
  payload g _ d := payAt m g.1.1 (cix g.2) d
  amount_pos g _ _ _ := by
    cases cix g.2 with
    | none => exact Nat.one_pos
    | some k => exact amt_pos k

instance sched_payload_storable (g : GSem nD τ sig) (r : ℕ) (d : Fin 4) :
    BI.Storable (upEmb : UEmb _ 𝕄) ((sched (F := F) m).payload g r d) := by
  show BI.Storable upEmb (payAt m g.1.1 (cix g.2) d)
  infer_instance

section Sched
variable (c : Dev nD) (k : Fin 9)

theorem duties_k : (sched (F := F) m).duties (kcell (c, k)) 0 = dut k := by
  dsimp only [sched]; rw [if_pos ⟨rfl, rfl⟩, cix_csem]; rfl
theorem duties_later (g : GSem nD τ sig) : ∀ r, 1 ≤ r → (sched (F := F) m).duties g r = ∅ :=
  fun r hr => by dsimp only [sched]; rw [if_neg fun h => by omega]
theorem amount_k (d : Fin 4) : (sched (F := F) m).amount (kcell (c, k)) 0 d = amt k := by
  dsimp only [sched]; rw [cix_csem]; rfl
theorem payload_k (d : Fin 4) : (sched (F := F) m).payload (kcell (c, k)) 0 d = pay m c k d := by
  dsimp only [sched]; rw [cix_csem]; rfl
theorem expect_bar : (sched (F := F) m).expect (kcell (c, 0)) 0 = 4 := by
  unfold Schedule.expect Schedule.amountOf
  rw [duties_k, Finset.sum_congr rfl fun d _ => amount_k m c 0 d, Finset.sum_const]; rfl
theorem expect_k (hk : dut k = {0}) : (sched (F := F) m).expect (kcell (c, k)) 0 = amt k := by
  unfold Schedule.expect Schedule.amountOf
  rw [duties_k, hk, Finset.sum_singleton, amount_k]
theorem rest_bar : bigSep ((sched (F := F) m).duties (kcell (c, 0)) 0 \ ∅) (fun d => (sched (F := F) m).payload (kcell (c, 0)) 0 d)
    = iprop((∃ f, hold raM (pt c) f) ∗ (∃ f, hold rbS0 (pl3 c) f) ∗ (∃ f, hold rbS1 (pl2 c) f) ∗ (∃ f, hold rbS2 (pl1 c) f)) := by
  rw [Finset.sdiff_empty, duties_k, show dut 0 = Finset.univ from rfl, bigSep_univ_eq_bigSepL [0, 1, 2, 3] (by decide) (by decide),
    bigSepL_cons_cons, bigSepL_cons_cons, bigSepL_cons_cons, bigSepL_singleton, payload_k, payload_k, payload_k, payload_k]
  rfl
theorem rest_k (hk : dut k = {0}) : bigSep ((sched (F := F) m).duties (kcell (c, k)) 0 \ ∅) (fun d => (sched (F := F) m).payload (kcell (c, k)) 0 d)
    = pay m c k 0 := by
  rw [Finset.sdiff_empty, duties_k, hk, bigSep_singleton, payload_k]

end Sched

/-! ## What each device owes at launch, and the levels -/

def O3 (c : Dev nD) : CellTallies nD τ sig Unit := tallyAt (kcell (pl3 c, 5)) () NB
def O2 (c : Dev nD) : CellTallies nD τ sig Unit := O3 c + tallyAt (kcell (pl2 c, 6)) () NB
def O1 (c : Dev nD) : CellTallies nD τ sig Unit := O2 c + tallyAt (kcell (pl1 c, 7)) () NB
def OA (c : Dev nD) : CellTallies nD τ sig Unit := O1 c + tallyAt (kcell (pt c, 8)) () NA
def OS3 (c : Dev nD) : CellTallies nD τ sig Unit := OA c + tallyAt (kcell (pl3 c, 0)) () 1
def OS2 (c : Dev nD) : CellTallies nD τ sig Unit := OS3 c + tallyAt (kcell (pl2 c, 0)) () 1
def OS1 (c : Dev nD) : CellTallies nD τ sig Unit := OS2 c + tallyAt (kcell (pl1 c, 0)) () 1
def O₀ (c : Dev nD) : CellTallies nD τ sig Unit := OS1 c + tallyAt (kcell (pt c, 0)) () 1

def L (g : GSem nD τ sig) : Finset Unit := if g.1.2 = .tc then {()} else ∅
/-- Barrier cells at 1, the cells of the copies between planes at 2, of those around a plane at 3, everything else at 0. -/
def lvk : Fin 9 → ℕ := fun | 0 => 1 | 8 => 2 | 5 => 3 | 6 => 3 | 7 => 3 | _ => 0
def lv (g : GSem nD τ sig) (_ : Unit) : ℕ := (cix g.2).elim 0 lvk

/-- The levels of the cells that are not the kernel's. -/
theorem L_of_ne (g : GSem nD τ sig) (h : g.1.2 ≠ .tc) : L g = ∅ := if_neg h
theorem L_tc (c : Dev nD) (sm : SemLoc sig) : L ((c : Thread nD τ), sm) = {()} := if_pos rfl
theorem lv_k (ck : Dev nD × Fin 9) (u : Unit) : lv (kcell ck) u = lvk ck.2 := by unfold lv; rw [cix_csem]; rfl

/-- All that is owed lies above level `n`. -/
def Above (n : ℕ) (O : CellTallies nD τ sig Unit) : Prop := ∀ g u, 0 < O g u → L g = {()} ∧ n < lv g u

theorem above_tally (n : ℕ) (ck : Dev nD × Fin 9) (N : ℕ) (h : n < lvk ck.2) : Above n (tallyAt (kcell ck) () N) := by
  intro g u hg
  rw [tallyAt_apply] at hg
  by_cases h' : g = kcell ck ∧ u = ()
  · rw [h'.1, lv_k]; exact ⟨L_tc _ _, h⟩
  · rw [if_neg h'] at hg; exact absurd hg (Nat.lt_irrefl 0)
theorem above_add {n : ℕ} {O O' : CellTallies nD τ sig Unit} (h : Above n O) (h' : Above n O') : Above n (O + O') := by
  intro g u hg
  rw [Pi.add_apply, Finsupp.add_apply] at hg
  by_cases h0 : 0 < O g u
  · exact h g u h0
  · exact h' g u (by omega)

theorem above_O3 (c : Dev nD) {n : ℕ} (h : n < 3) : Above n (O3 c) := above_tally n _ _ h
theorem above_O2 (c : Dev nD) {n : ℕ} (h : n < 3) : Above n (O2 c) := above_add (above_O3 c h) (above_tally n _ _ h)
theorem above_O1 (c : Dev nD) {n : ℕ} (h : n < 3) : Above n (O1 c) := above_add (above_O2 c h) (above_tally n _ _ h)
theorem above_OA (c : Dev nD) {n : ℕ} (h : n < 2) : Above n (OA c) :=
  above_add (above_O1 c (Nat.lt_succ_of_lt h)) (above_tally n _ _ h)
/-- Nothing the device owes at its launch is below what it waits for. -/
theorem above_O₀ (c : Dev nD) : Above 0 (O₀ c) :=
  above_add (above_add (above_add (above_add (above_OA c (by decide)) (above_tally 0 _ _ Nat.zero_lt_one))
    (above_tally 0 _ _ Nat.zero_lt_one)) (above_tally 0 _ _ Nat.zero_lt_one)) (above_tally 0 _ _ Nat.zero_lt_one)

omit [FloatOps F] in
/-- A device may wait at a semaphore below all it owes. -/
theorem mayWait (c : Dev nD) (sm : SemLoc sig) (n : ℕ) (hl : lv ((c : Thread nD τ), sm) () ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [(hO g u hg).1]; exact Finset.mem_singleton_self _)
    (fun p hp => by rw [Finset.mem_singleton.mp hp]; exact hl)
    (fun g u hg => (hO g u hg).2)

end Cert.MoE

end
-- ==== Proof.Slots.lean ====
/-
The three-slot buffers, slot by slot: a whole buffer cut into its slots and put back together, what a store into a
slot leaves there, what a copy from a slot to a slot lands, and what a load from a slot reads.
-/
module

public import proofs.«01_k».proof.Proof.Protocol
public import Idealize.ShloMosaic.Lib.Ring

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Indices -/

/-- Within its slot, an element of slot `0`, `1`, `2` is where it was. -/
theorem inSlot_q0 (y : q0.shape.Idx) : inSlot (q0.emb y) = y := by
  funext a; fin_cases a <;> apply Fin.ext
  · have := (y 0).isLt; change (y 0).val < 1 at this; change 0 = (y 0).val; omega
  · change 0 + 1 * (y 1).val = (y 1).val; omega
  · change 0 + 1 * (y 2).val = (y 2).val; omega
theorem inSlot_q1 (y : q1.shape.Idx) : inSlot (q1.emb y) = y := by
  funext a; fin_cases a <;> apply Fin.ext
  · have := (y 0).isLt; change (y 0).val < 1 at this; change 0 = (y 0).val; omega
  · change 0 + 1 * (y 1).val = (y 1).val; omega
  · change 0 + 1 * (y 2).val = (y 2).val; omega
theorem inSlot_q2 (y : q2.shape.Idx) : inSlot (q2.emb y) = y := by
  funext a; fin_cases a <;> apply Fin.ext
  · have := (y 0).isLt; change (y 0).val < 1 at this; change 0 = (y 0).val; omega
  · change 0 + 1 * (y 1).val = (y 1).val; omega
  · change 0 + 1 * (y 2).val = (y 2).val; omega

theorem q0_zero (y : q0.shape.Idx) : (q0.emb y 0).val = 0 := by
  have := (y 0).isLt; change (y 0).val < 1 at this; change 0 + 1 * (y 0).val = 0; omega
theorem q1_zero (y : q1.shape.Idx) : (q1.emb y 0).val = 1 := by
  have := (y 0).isLt; change (y 0).val < 1 at this; change 1 + 1 * (y 0).val = 1; omega
theorem q2_zero (y : q2.shape.Idx) : (q2.emb y 0).val = 2 := by
  have := (y 0).isLt; change (y 0).val < 1 at this; change 2 + 1 * (y 0).val = 2; omega

/-- What the two buffers hold in each slot. -/
theorem sbV_q0 (c : Dev nD) (y : q0.shape.Idx) : sbV m c (q0.emb y) = sb1V m c y := by
  unfold sbV; rw [if_pos (q0_zero y), inSlot_q0]
theorem sbV_q1 (c : Dev nD) (y : q1.shape.Idx) : sbV m c (q1.emb y) = sb2V m c y := by
  unfold sbV; rw [if_neg (by rw [q1_zero]; decide), if_pos (q1_zero y), inSlot_q1]
theorem sbV_q2 (c : Dev nD) (y : q2.shape.Idx) : sbV m c (q2.emb y) = sb3V m c y := by
  unfold sbV; rw [if_neg (by rw [q2_zero]; decide), if_neg (by rw [q2_zero]; decide), inSlot_q2]
theorem rbV_q0 (c : Dev nD) (y : q0.shape.Idx) : rbV m c (q0.emb y) = sb3V m (pl1 c) y := by
  unfold rbV; rw [if_pos (q0_zero y), inSlot_q0]
theorem rbV_q1 (c : Dev nD) (y : q1.shape.Idx) : rbV m c (q1.emb y) = sb2V m (pl2 c) y := by
  unfold rbV; rw [if_neg (by rw [q1_zero]; decide), if_pos (q1_zero y), inSlot_q1]
theorem rbV_q2 (c : Dev nD) (y : q2.shape.Idx) : rbV m c (q2.emb y) = sb1V m (pl3 c) y := by
  unfold rbV; rw [if_neg (by rw [q2_zero]; decide), if_neg (by rw [q2_zero]; decide), inSlot_q2]

/-! ## A slot's elements -/

theorem set_sbS0 : sbS0.view.set = (q0.set : Finset S3x64x1024.Idx) := by
  rw [Memref.set_view_squeeze]; exact View.set_slice_whole cc0_scratch5 q0
theorem set_sbS1 : sbS1.view.set = (q1.set : Finset S3x64x1024.Idx) := by
  rw [Memref.set_view_squeeze]; exact View.set_slice_whole cc0_scratch5 q1
theorem set_sbS2 : sbS2.view.set = (q2.set : Finset S3x64x1024.Idx) := by
  rw [Memref.set_view_squeeze]; exact View.set_slice_whole cc0_scratch5 q2
theorem set_rbS0 : rbS0.view.set = (q0.set : Finset S3x64x1024.Idx) := by
  rw [Memref.set_view_squeeze]; exact View.set_slice_whole cc0_scratch6 q0
theorem set_rbS1 : rbS1.view.set = (q1.set : Finset S3x64x1024.Idx) := by
  rw [Memref.set_view_squeeze]; exact View.set_slice_whole cc0_scratch6 q1
theorem set_rbS2 : rbS2.view.set = (q2.set : Finset S3x64x1024.Idx) := by
  rw [Memref.set_view_squeeze]; exact View.set_slice_whole cc0_scratch6 q2

theorem mem_q (r : Rect S3x64x1024) (i : S3x64x1024.Idx) (h : i ∈ r.set) : ∃ y, r.emb y = i := by
  rw [← Rect.map_emb_univ] at h
  obtain ⟨y, -, hy⟩ := Finset.mem_map.mp h
  exact ⟨y, hy⟩
theorem emb_mem_q (r : Rect S3x64x1024) (y : r.shape.Idx) : r.emb y ∈ r.set := by
  rw [← Rect.map_emb_univ]; exact Finset.mem_map_of_mem _ (Finset.mem_univ y)

/-! ## A store into a slot -/

theorem store_q0 (c : Dev nD) (f : Vec F S3x64x1024 .bf16) :
    (sbM.view.loc (c : Thread nD τ) ↦[sbS0.view.set]{fullShare} ((sbM.access q0).write (Elt F) f (sb1V m c) Finset.univ) : sProp 𝕄) = hold sbS0 c (sbV m c) := by
  unfold hold
  refine pointsTo_congr fun i hi => ?_
  rw [set_sbS0] at hi
  obtain ⟨y, rfl⟩ := mem_q _ _ hi
  exact (View.write_emb_of_mem (v := sbM.access q0) (Val := Elt F) _ _ (Finset.mem_univ y)).trans (sbV_q0 m c y).symm
theorem store_q1 (c : Dev nD) (f : Vec F S3x64x1024 .bf16) :
    (sbM.view.loc (c : Thread nD τ) ↦[sbS1.view.set]{fullShare} ((sbM.access q1).write (Elt F) f (sb2V m c) Finset.univ) : sProp 𝕄) = hold sbS1 c (sbV m c) := by
  unfold hold
  refine pointsTo_congr fun i hi => ?_
  rw [set_sbS1] at hi
  obtain ⟨y, rfl⟩ := mem_q _ _ hi
  exact (View.write_emb_of_mem (v := sbM.access q1) (Val := Elt F) _ _ (Finset.mem_univ y)).trans (sbV_q1 m c y).symm
theorem store_q2 (c : Dev nD) (f : Vec F S3x64x1024 .bf16) :
    (sbM.view.loc (c : Thread nD τ) ↦[sbS2.view.set]{fullShare} ((sbM.access q2).write (Elt F) f (sb3V m c) Finset.univ) : sProp 𝕄) = hold sbS2 c (sbV m c) := by
  unfold hold
  refine pointsTo_congr fun i hi => ?_
  rw [set_sbS2] at hi
  obtain ⟨y, rfl⟩ := mem_q _ _ hi
  exact (View.write_emb_of_mem (v := sbM.access q2) (Val := Elt F) _ _ (Finset.mem_univ y)).trans (sbV_q2 m c y).symm

/-! ## A copy from a slot to a slot -/

/-- the third. -/
theorem land_2 (c : Dev nD) (fd : Vec F S3x64x1024 .bf16) :
    (rbS2.view.loc (pl1 c : Thread nD τ) ↦[rbS2.view.set]{fullShare} (rbS2.view.write (Elt F) fd (sbS0.view.read (Elt F) (sbV m c)) Finset.univ) : sProp 𝕄)
      ⊢ hold rbS2 (pl1 c) (rbV m (pl1 c)) := by
  unfold hold
  refine Entails.of_eq (pointsTo_congr fun i hi => ?_)
  obtain ⟨x, -, rfl⟩ := Finset.mem_map.mp hi
  rw [View.write_emb_of_mem _ _ (Finset.mem_univ _), View.read_apply]
  exact (sbV_q0 m c _).trans ((rbV_q2 m (pl1 c) _).trans (by rw [pl3_pl1])).symm
/-- the second, -/
theorem land_1 (c : Dev nD) (fd : Vec F S3x64x1024 .bf16) :
    (rbS1.view.loc (pl2 c : Thread nD τ) ↦[rbS1.view.set]{fullShare} (rbS1.view.write (Elt F) fd (sbS1.view.read (Elt F) (sbV m c)) Finset.univ) : sProp 𝕄)
      ⊢ hold rbS1 (pl2 c) (rbV m (pl2 c)) := by
  unfold hold
  refine Entails.of_eq (pointsTo_congr fun i hi => ?_)
  obtain ⟨x, -, rfl⟩ := Finset.mem_map.mp hi
  rw [View.write_emb_of_mem _ _ (Finset.mem_univ _), View.read_apply]
  exact (sbV_q1 m c _).trans ((rbV_q1 m (pl2 c) _).trans (by rw [pl2_pl2])).symm
/-- A landed slot holds what was sent: the first, -/
theorem land_0 (c : Dev nD) (fd : Vec F S3x64x1024 .bf16) :
    (rbS0.view.loc (pl3 c : Thread nD τ) ↦[rbS0.view.set]{fullShare} (rbS0.view.write (Elt F) fd (sbS2.view.read (Elt F) (sbV m c)) Finset.univ) : sProp 𝕄)
      ⊢ hold rbS0 (pl3 c) (rbV m (pl3 c)) := by
  unfold hold
  refine Entails.of_eq (pointsTo_congr fun i hi => ?_)
  obtain ⟨x, -, rfl⟩ := Finset.mem_map.mp hi
  rw [View.write_emb_of_mem _ _ (Finset.mem_univ _), View.read_apply]
  exact (sbV_q2 m c _).trans ((rbV_q0 m (pl3 c) _).trans (by rw [pl1_pl3])).symm
/-- The copy between the planes: the whole buffer. -/
theorem land_A (c : Dev nD) (fd : Vec F S112x1024 .bf16) :
    (raM.view.loc (pt c : Thread nD τ) ↦[raM.view.set]{fullShare} (raM.view.write (Elt F) fd (saM.view.read (Elt F) (saV m c)) Finset.univ) : sProp 𝕄)
      ⊢ hold raM (pt c) (saV m (pt (pt c))) := by
  unfold hold
  rw [pt_pt]
  refine Entails.of_eq (congrArg _ ?_)
  show (View.whole cc0_scratch4).write (Elt F) fd ((View.whole cc0_scratch3).read (Elt F) (saV m c)) Finset.univ = _
  rw [View.read_whole]
  exact View.write_whole_univ _ _ _

/-! ## A load from a slot -/

theorem read_q0 (c : Dev nD) : rbM.view.readAt (Elt F) q0.toLoadRect (rbV m c) = sb3V m (pl1 c) := funext fun y => rbV_q0 m c y
theorem read_q1 (c : Dev nD) : rbM.view.readAt (Elt F) q1.toLoadRect (rbV m c) = sb2V m (pl2 c) := funext fun y => rbV_q1 m c y
theorem read_q2 (c : Dev nD) : rbM.view.readAt (Elt F) q2.toLoadRect (rbV m c) = sb1V m (pl3 c) := funext fun y => rbV_q2 m c y

theorem load_rbS0 : rbM.view.setOn q0.toLoadRect.set ⊆ rbS0.view.set := by
  rw [Memref.set_view_squeeze]; exact Memref.setOn_subset_slice_of_within rbM q0 _ _ (by decide)
theorem load_rbS1 : rbM.view.setOn q1.toLoadRect.set ⊆ rbS1.view.set := by
  rw [Memref.set_view_squeeze]; exact Memref.setOn_subset_slice_of_within rbM q1 _ _ (by decide)
theorem load_rbS2 : rbM.view.setOn q2.toLoadRect.set ⊆ rbS2.view.set := by
  rw [Memref.set_view_squeeze]; exact Memref.setOn_subset_slice_of_within rbM q2 _ _ (by decide)
theorem load_sbS0 : sbM.view.setOn q0.toLoadRect.set ⊆ sbS0.view.set := by
  rw [Memref.set_view_squeeze]; exact Memref.setOn_subset_slice_of_within sbM q0 _ _ (by decide)
theorem load_sbS1 : sbM.view.setOn q1.toLoadRect.set ⊆ sbS1.view.set := by
  rw [Memref.set_view_squeeze]; exact Memref.setOn_subset_slice_of_within sbM q1 _ _ (by decide)
theorem load_sbS2 : sbM.view.setOn q2.toLoadRect.set ⊆ sbS2.view.set := by
  rw [Memref.set_view_squeeze]; exact Memref.setOn_subset_slice_of_within sbM q2 _ _ (by decide)
theorem put_sbS0 : (sbM.access q0).setOn Finset.univ ⊆ sbS0.view.set := by
  rw [Memref.set_view_squeeze]; exact Memref.setOn_access_subset_slice_of_within sbM q0 _ _ _ (by decide)
theorem put_sbS1 : (sbM.access q1).setOn Finset.univ ⊆ sbS1.view.set := by
  rw [Memref.set_view_squeeze]; exact Memref.setOn_access_subset_slice_of_within sbM q1 _ _ _ (by decide)
theorem put_sbS2 : (sbM.access q2).setOn Finset.univ ⊆ sbS2.view.set := by
  rw [Memref.set_view_squeeze]; exact Memref.setOn_access_subset_slice_of_within sbM q2 _ _ _ (by decide)

/-! ## A whole buffer and its slots -/

/-- The slots' element sets: by the first coordinate. -/
def slotSet (k : Fin 3) : Finset S3x64x1024.Idx := Finset.univ.filter fun i => (i 0).val = k.val

theorem slotSet_disjoint (b b' : Fin 3) (h : b ≠ b') : Disjoint (slotSet b) (slotSet b') := by
  rw [Finset.disjoint_left]
  intro i hi hi'
  exact h (Fin.ext (((Finset.mem_filter.mp hi).2).symm.trans (Finset.mem_filter.mp hi').2))
theorem slotSet_cover : Finset.univ.biUnion slotSet = (Finset.univ : Finset S3x64x1024.Idx) := by
  ext i
  have h : (i 0).val < 3 := (i 0).isLt
  exact ⟨fun _ => Finset.mem_univ _, fun _ => Finset.mem_biUnion.mpr ⟨⟨(i 0).val, h⟩, Finset.mem_univ _, Finset.mem_filter.mpr ⟨Finset.mem_univ _, rfl⟩⟩⟩

theorem q0_set : (q0.set : Finset S3x64x1024.Idx) = slotSet 0 := by
  ext i
  refine ⟨fun h => ?_, fun h => ?_⟩
  · obtain ⟨y, rfl⟩ := mem_q _ _ h
    exact Finset.mem_filter.mpr ⟨Finset.mem_univ _, q0_zero y⟩
  · have e : q0.emb (inSlot i) = i := by
      funext a; fin_cases a <;> apply Fin.ext
      · exact (Finset.mem_filter.mp h).2.symm
      · change 0 + 1 * (i 1).val = (i 1).val; omega
      · change 0 + 1 * (i 2).val = (i 2).val; omega
    rw [← e]; exact emb_mem_q _ _
theorem q1_set : (q1.set : Finset S3x64x1024.Idx) = slotSet 1 := by
  ext i
  refine ⟨fun h => ?_, fun h => ?_⟩
  · obtain ⟨y, rfl⟩ := mem_q _ _ h
    exact Finset.mem_filter.mpr ⟨Finset.mem_univ _, q1_zero y⟩
  · have e : q1.emb (inSlot i) = i := by
      funext a; fin_cases a <;> apply Fin.ext
      · exact (Finset.mem_filter.mp h).2.symm
      · change 0 + 1 * (i 1).val = (i 1).val; omega
      · change 0 + 1 * (i 2).val = (i 2).val; omega
    rw [← e]; exact emb_mem_q _ _
theorem q2_set : (q2.set : Finset S3x64x1024.Idx) = slotSet 2 := by
  ext i
  refine ⟨fun h => ?_, fun h => ?_⟩
  · obtain ⟨y, rfl⟩ := mem_q _ _ h
    exact Finset.mem_filter.mpr ⟨Finset.mem_univ _, q2_zero y⟩
  · have e : q2.emb (inSlot i) = i := by
      funext a; fin_cases a <;> apply Fin.ext
      · exact (Finset.mem_filter.mp h).2.symm
      · change 0 + 1 * (i 1).val = (i 1).val; omega
      · change 0 + 1 * (i 2).val = (i 2).val; omega
    rw [← e]; exact emb_mem_q _ _

omit [FloatOps F] in
/-- The send buffer in three slots. -/
theorem split_sb (c : Dev nD) (f : Vec F S3x64x1024 .bf16) :
    (((c : Thread nD τ).loc cc0_scratch5) ↦{fullShare} f : sProp 𝕄) = iprop(hold sbS0 c f ∗ hold sbS1 c f ∗ hold sbS2 c f) := by
  rw [Ring.pointsTo_blocks (ℓ := (c : Thread nD τ).loc cc0_scratch5) slotSet slotSet_disjoint slotSet_cover f,
    bigSep_univ_eq_bigSepL [0, 1, 2] (by decide) (by decide), bigSepL_cons_cons, bigSepL_cons_cons, bigSepL_singleton,
    ← q0_set, ← q1_set, ← q2_set, ← set_sbS0, ← set_sbS1, ← set_sbS2]
  rfl
omit [FloatOps F] in
/-- The landing buffer in three slots. -/
theorem split_rb (c : Dev nD) (f : Vec F S3x64x1024 .bf16) :
    (((c : Thread nD τ).loc cc0_scratch6) ↦{fullShare} f : sProp 𝕄) = iprop(hold rbS0 c f ∗ hold rbS1 c f ∗ hold rbS2 c f) := by
  rw [Ring.pointsTo_blocks (ℓ := (c : Thread nD τ).loc cc0_scratch6) slotSet slotSet_disjoint slotSet_cover f,
    bigSep_univ_eq_bigSepL [0, 1, 2] (by decide) (by decide), bigSepL_cons_cons, bigSepL_cons_cons, bigSepL_singleton,
    ← q0_set, ← q1_set, ← q2_set, ← set_rbS0, ← set_rbS1, ← set_rbS2]
  rfl

end Cert.MoE

end
-- ==== Proof.Steps.lean ====
/-
One rule per kind of step of the kernel's body, over this protocol's cells: a signal, a wait (which ends its cell), the
four copies; and the records every device shares.
-/
module

public import proofs.«01_k».proof.Proof.Slots

@[expose] public section

noncomputable section

namespace Cert.MoE

open Cert.KernelIdeal Cert.KernelIdeal.Gen

open Idealize.ShloMosaic
open Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

abbrev 𝒱₀ : Variants := Variants.none

variable (K : Dev nD × Fin 9 → ℕ)

/-- What every device knows of all the cells: their invariants, under the names `K`, and that each is at its round. -/
def rec : sProp 𝕄 :=
  iprop((bigSep Finset.univ fun ck => cellInv ER (sched m) (K ck) (kcell ck)) ∗ bigSep Finset.univ fun ck : Dev nD × Fin 9 => reached ER (kcell ck) 0)

instance rec_persistent : BI.Persistent (rec (F := F) m K) := by unfold rec; infer_instance

/-- The record is kept by the invariant. -/
theorem rec_inv (ck : Dev nD × Fin 9) : rec m K ⊢ cellInv ER (sched (F := F) m) (K ck) (kcell ck) := by
  have h : (bigSep Finset.univ fun ck => cellInv ER (sched (F := F) m) (K ck) (kcell ck))
      ⊢ iprop(cellInv ER (sched (F := F) m) (K ck) (kcell ck) ∗ bigSep (Finset.univ.erase ck) fun ck => cellInv ER (sched (F := F) m) (K ck) (kcell ck)) :=
    Entails.of_eq (bigSep_erase (Finset.mem_univ ck))
  unfold rec
  iintro ⟨H, -⟩
  ihave H' := h $$ H
  icases H' with ⟨H', -⟩; iexact H'
/-- A recorded round has been reached. -/
theorem rec_reached (ck : Dev nD × Fin 9) : rec m K ⊢ reached (ER (F := F)) (kcell ck) 0 := by
  have h : (bigSep Finset.univ fun ck : Dev nD × Fin 9 => reached (ER (F := F)) (kcell ck) 0)
      ⊢ iprop(reached (ER (F := F)) (kcell ck) 0 ∗ bigSep (Finset.univ.erase ck) fun ck => reached (ER (F := F)) (kcell ck) 0) :=
    Entails.of_eq (bigSep_erase (Finset.mem_univ ck))
  unfold rec
  iintro ⟨-, H⟩
  ihave H' := h $$ H
  icases H' with ⟨H', -⟩; iexact H'

/-- What device `c` owes, its waits so far left unnamed. -/
def owe (c : Dev nD) (O : CellTallies nD τ sig Unit) : sProp 𝕄 := iprop(∃ W, owes (c : Thread nD τ) O W)

abbrev tok (ck : Dev nD × Fin 9) (d : Fin 4) : sProp 𝕄 := dutyTok (ER (F := F)) (kcell ck) 0 d
abbrev at0 (ck : Dev nD × Fin 9) : sProp 𝕄 := atPos (ER (F := F)) (kcell ck) 0 ∅ 0
abbrev crd (ck : Dev nD × Fin 9) (N : ℕ) : sProp 𝕄 := cred (tallyAt (kcell ck) () N)
abbrev zer (ck : Dev nD × Fin 9) : sProp 𝕄 := semVal (kcell ck) 0

section Rules
variable {α : Type} (c : Dev nD) (Q : α → sProp (MT nD τ sig Unit (Elt F) ℕ UU ℕ)) (k : PUnit → Prog (TpuEff nD τ sig (Elt F) Λ₀ .tc) α)

/-- A signal to `p`'s barrier, paying its duty `d`. -/
theorem step_signal (p : Dev nD) (d : Fin 4) (n : ℕ) (hn : n = 1) (O : CellTallies nD τ sig Unit) :
    iprop(rec m K ∗ owe c (O + tallyAt (kcell (p, 0)) () 1) ∗ tok (p, 0) d ∗ barPay p d)
      ⊢ iprop((owe c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (p : Thread nD τ) barS n) k) Q) := by
  subst hn
  unfold owe
  iintro ⟨#HR, ⟨%W, HO⟩, Ht, Hp⟩ Hk
  iapply (Rounds.wp_signal 𝒱₀ ER (sched m) (c : Thread nD τ) none (dst := (p : Thread nD τ)) (κ := K (p, 0)) (d := d)
      (by rw [show ((p : Thread nD τ), SemLoc.reg barS) = kcell (p, 0) from rfl, duties_k]; exact Finset.mem_univ _)
      ((amount_k m p 0 d).trans rfl) () O rfl) $$ [HO Ht Hp]
  · isplitr; · iapply (rec_inv m K (p, 0)); iexact HR
    isplitl [HO]; · iexact HO
    isplitl [Ht]; · iexact Ht
    isplitl [Hp]; · iapply (Entails.of_eq ((rfl : barPay p d = pay m p 0 d).trans (payload_k m p 0 d).symm)); iexact Hp
    iapply (rec_reached m K (p, 0)); iexact HR
  iintro HO
  iapply Hk
  iexists W; iexact HO

/-- A wait for all of one of the own cells, which ends it. -/
theorem step_wait (j : Fin 9) (w : TpuEff nD τ sig (Elt F) Λ₀ .tc PUnit) (n : ℕ)
    (hw : ∀ K' : PUnit → sProp 𝕄, wpE' (defs₀ (F := F)) 𝒱₀ (c : Thread nD τ) none [] Set.univ w K' = waitSpec (c : Thread nD τ) Set.univ (csem j) n K')
    (hn : n = (sched (F := F) m).expect (kcell (c, j)) 0) (O : CellTallies nD τ sig Unit) (hO : (levAts L lv : sProp 𝕄) ⊢ MayWait (c : Thread nD τ) (csem j) () O) :
    iprop(rec m K ∗ levAts L lv ∗ crd (c, j) n ∗ owe c O ∗ at0 (c, j))
      ⊢ iprop(((owe c O ∗ zer (c, j) ∗ bigSep ((sched m).duties (kcell (c, j)) 0 \ ∅) (fun d => (sched m).payload (kcell (c, j)) 0 d))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold owe
  iintro ⟨#HR, #HL, Hc, ⟨%W, HO⟩, Hat⟩ Hk
  iapply (Rounds.wp_wait_rest_token 𝒱₀ ER (sched m) (c : Thread nD τ) none (κ := K (c, j)) (sm := csem j) hw (Set.mem_univ _) () (O := O) (W := W)
      (R := 0) (m := 0) (T := ∅) (by rw [Nat.zero_add]; exact hn)) $$ [Hc HO Hat]
  · isplitr; · iapply (rec_inv m K (c, j)); iexact HR
    isplitl [Hc]; · iexact Hc
    isplitl [HO]; · iexact HO
    isplitr; · iapply hO; iexact HL
    iexact Hat
  iintro ⟨HO, Hat, -, Hpay⟩
  imod (Rounds.cell_close ER (sched m) (Set.mem_univ (K (c, j))) (fun h => h) (R := 0 + 1) (duties_later m (kcell (c, j)))) $$ [Hat] with Hz
  · isplitr; · iapply (rec_inv m K (c, j)); iexact HR
    iexact Hat
  iapply Hk
  isplitl [HO]; · iexists _; iexact HO
  isplitl [Hz]; · iexact Hz
  iexact Hpay

/-- A copy of one of the own buffers to a peer, paying the own cell `j₁` and the peer's cell `j₂`. -/
theorem step_send {s : Shape} {src dst : Memref sig .tc .vmem s .bf16} (p n : Dev nD) (hn : n = p) (j₁ j₂ : Fin 9) (h₁ : dut j₁ = {0}) (h₂ : dut j₂ = {0})
    {sS sR : DmaSem sig} (hS : csem j₁ = .dma sS) (hR : csem j₂ = .dma sR)
    {hsc : dst.view.ref.isScScratch = false}
    {hsrc : src.view.WordExact} {hdst : dst.view.WordExact}
    {hsem' : DmaTarget.Typed (nD := nD) (τ := τ) (sig := sig) (p := .tc) .vmem (.dma sR) (.remote (n : Thread nD τ) dst (.dma sS) hsc)}
    (N : ℕ) (hN : dst.view.amount (.dma sR) = N) (ha₁ : amt j₁ = N) (ha₂ : amt j₂ = N)
    (fs : Buf (Elt F) (src.view.loc (c : Thread nD τ))) (fd : Buf (Elt F) (dst.view.loc (p : Thread nD τ)))
    (hp₁ : hold src c fs ⊢ pay m c j₁ 0)
    (hp₂ : (dst.view.loc (p : Thread nD τ) ↦[dst.view.set]{fullShare} (dst.view.write (Elt F) fd (src.view.read (Elt F) fs) Finset.univ)) ⊢ pay m p j₂ 0)
    (O : CellTallies nD τ sig Unit) :
    iprop(rec m K ∗ hold src c fs ∗ hold dst p fd ∗ owe c (O + tallyAt (kcell (p, j₂)) () N) ∗ tok (c, j₁) 0 ∗ tok (p, j₂) 0)
      ⊢ iprop(((crd (c, j₁) N ∗ owe c O) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma src (.remote (n : Thread nD τ) dst (.dma sS) hsc) (.dma sR) hsrc hdst hsem') k) Q) := by
  subst hn
  unfold owe hold
  iintro ⟨#HR, Hs, Hd, ⟨%W, HO⟩, Ht₁, Ht₂⟩ Hk
  have e₁ : ((c : Thread nD τ), SemLoc.dma sS) = kcell (c, j₁) := by rw [← hS]
  have e₂ : ((n : Thread nD τ), SemLoc.dma sR) = kcell (n, j₂) := by rw [← hR]
  rw [← e₂]
  iapply (Rounds.wp_send_pointsTo 𝒱₀ ER (sched m) (c : Thread nD τ) none (κ₁ := K (c, j₁)) (κ₂ := K (n, j₂)) (r₁ := 0) (r₂ := 0) (d₁ := 0) (d₂ := 0) (fd := fd)
      (by rw [e₁, duties_k, h₁]; exact Finset.mem_singleton_self _) (by rw [e₂, duties_k, h₂]; exact Finset.mem_singleton_self _)
      () () N hN (by rw [e₁, amount_k, ha₁]) (by rw [e₂, amount_k, ha₂]) O rfl (W := W)
      (by rw [e₁, payload_k]; exact hp₁) (by rw [e₂, payload_k]; exact hp₂)) $$ [Hs Hd HO Ht₁ Ht₂]
  · isplitr; · rw [e₁]; iapply (rec_inv m K (c, j₁)); iexact HR
    isplitr; · rw [e₂]; iapply (rec_inv m K (n, j₂)); iexact HR
    isplitl [Hs]; · iexact Hs
    isplitl [Hd]; · iexact Hd
    isplitl [HO]; · iexact HO
    isplitl [Ht₁]; · rw [e₁]; iexact Ht₁
    isplitr; · rw [e₁]; iapply (rec_reached m K (c, j₁)); iexact HR
    isplitl [Ht₂]; · rw [e₂]; iexact Ht₂
    rw [e₂]; iapply (rec_reached m K (n, j₂)); iexact HR
  iintro ⟨Hc, HO⟩
  iapply Hk
  isplitl [Hc]; · rw [e₁]; iexact Hc
  iexists W; iexact HO

end Rules

end Cert.MoE

end
-- ==== Proof.Parts.lean ====
/-
The kernel's body part by part, on device `c`: what each part needs, and what it leaves and returns.
-/
module

public import proofs.«01_k».proof.Proof.Steps

@[expose] public section

noncomputable section

namespace Cert.MoE

open Cert.KernelIdeal Cert.KernelIdeal.Gen

open Idealize.ShloMosaic
open Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × Fin 9 → ℕ)

/-! ## The parts on the kernel's own buffers -/

section Progs
variable (F)
abbrev P1 := k0_part1 (F := F) aM (Memref.isWhole_whole _) rM (Memref.isWhole_whole _) iM (Memref.isWhole_whole _) eM (Memref.isWhole_whole _) hM (Memref.isWhole_whole _) oM (Memref.isWhole_whole _) xbM (Memref.isWhole_whole _) cbM (Memref.isWhole_whole _) acM (Memref.isWhole_whole _) saM (Memref.isWhole_whole _) raM (Memref.isWhole_whole _) sbM (Memref.isWhole_whole _) rbM (Memref.isWhole_whole _) cc0_scratch7 cc0_scratch8
abbrev P2 := k0_part2 (F := F) aM (Memref.isWhole_whole _) rM (Memref.isWhole_whole _) iM (Memref.isWhole_whole _) eM (Memref.isWhole_whole _) hM (Memref.isWhole_whole _) oM (Memref.isWhole_whole _) xbM (Memref.isWhole_whole _) cbM (Memref.isWhole_whole _) acM (Memref.isWhole_whole _) saM (Memref.isWhole_whole _) raM (Memref.isWhole_whole _) sbM (Memref.isWhole_whole _) rbM (Memref.isWhole_whole _) cc0_scratch7 cc0_scratch8
abbrev P3 := k0_part3 (F := F) aM (Memref.isWhole_whole _) rM (Memref.isWhole_whole _) iM (Memref.isWhole_whole _) eM (Memref.isWhole_whole _) hM (Memref.isWhole_whole _) oM (Memref.isWhole_whole _) xbM (Memref.isWhole_whole _) cbM (Memref.isWhole_whole _) acM (Memref.isWhole_whole _) saM (Memref.isWhole_whole _) raM (Memref.isWhole_whole _) sbM (Memref.isWhole_whole _) rbM (Memref.isWhole_whole _) cc0_scratch7 cc0_scratch8
abbrev P4 := k0_part4 (F := F) aM (Memref.isWhole_whole _) rM (Memref.isWhole_whole _) iM (Memref.isWhole_whole _) eM (Memref.isWhole_whole _) hM (Memref.isWhole_whole _) oM (Memref.isWhole_whole _) xbM (Memref.isWhole_whole _) cbM (Memref.isWhole_whole _) acM (Memref.isWhole_whole _) saM (Memref.isWhole_whole _) raM (Memref.isWhole_whole _) sbM (Memref.isWhole_whole _) rbM (Memref.isWhole_whole _) cc0_scratch7 cc0_scratch8
abbrev P5 := k0_part5 (F := F) aM (Memref.isWhole_whole _) rM (Memref.isWhole_whole _) iM (Memref.isWhole_whole _) eM (Memref.isWhole_whole _) hM (Memref.isWhole_whole _) oM (Memref.isWhole_whole _) xbM (Memref.isWhole_whole _) cbM (Memref.isWhole_whole _) acM (Memref.isWhole_whole _) saM (Memref.isWhole_whole _) raM (Memref.isWhole_whole _) sbM (Memref.isWhole_whole _) rbM (Memref.isWhole_whole _) cc0_scratch7 cc0_scratch8
abbrev P6 := k0_part6 (F := F) aM (Memref.isWhole_whole _) rM (Memref.isWhole_whole _) iM (Memref.isWhole_whole _) eM (Memref.isWhole_whole _) hM (Memref.isWhole_whole _) oM (Memref.isWhole_whole _) xbM (Memref.isWhole_whole _) cbM (Memref.isWhole_whole _) acM (Memref.isWhole_whole _) saM (Memref.isWhole_whole _) raM (Memref.isWhole_whole _) sbM (Memref.isWhole_whole _) rbM (Memref.isWhole_whole _) cc0_scratch7 cc0_scratch8
abbrev P7 := k0_part7 (F := F) aM (Memref.isWhole_whole _) rM (Memref.isWhole_whole _) iM (Memref.isWhole_whole _) eM (Memref.isWhole_whole _) hM (Memref.isWhole_whole _) oM (Memref.isWhole_whole _) xbM (Memref.isWhole_whole _) cbM (Memref.isWhole_whole _) acM (Memref.isWhole_whole _) saM (Memref.isWhole_whole _) raM (Memref.isWhole_whole _) sbM (Memref.isWhole_whole _) rbM (Memref.isWhole_whole _) cc0_scratch7 cc0_scratch8
abbrev P8 := k0_part8 (F := F) aM (Memref.isWhole_whole _) rM (Memref.isWhole_whole _) iM (Memref.isWhole_whole _) eM (Memref.isWhole_whole _) hM (Memref.isWhole_whole _) oM (Memref.isWhole_whole _) xbM (Memref.isWhole_whole _) cbM (Memref.isWhole_whole _) acM (Memref.isWhole_whole _) saM (Memref.isWhole_whole _) raM (Memref.isWhole_whole _) sbM (Memref.isWhole_whole _) rbM (Memref.isWhole_whole _) cc0_scratch7 cc0_scratch8
abbrev P9 := k0_part9 (F := F) aM (Memref.isWhole_whole _) rM (Memref.isWhole_whole _) iM (Memref.isWhole_whole _) eM (Memref.isWhole_whole _) hM (Memref.isWhole_whole _) oM (Memref.isWhole_whole _) xbM (Memref.isWhole_whole _) cbM (Memref.isWhole_whole _) acM (Memref.isWhole_whole _) saM (Memref.isWhole_whole _) raM (Memref.isWhole_whole _) sbM (Memref.isWhole_whole _) rbM (Memref.isWhole_whole _) cc0_scratch7 cc0_scratch8
abbrev P10 := k0_part10 (F := F) aM (Memref.isWhole_whole _) rM (Memref.isWhole_whole _) iM (Memref.isWhole_whole _) eM (Memref.isWhole_whole _) hM (Memref.isWhole_whole _) oM (Memref.isWhole_whole _) xbM (Memref.isWhole_whole _) cbM (Memref.isWhole_whole _) acM (Memref.isWhole_whole _) saM (Memref.isWhole_whole _) raM (Memref.isWhole_whole _) sbM (Memref.isWhole_whole _) rbM (Memref.isWhole_whole _) cc0_scratch7 cc0_scratch8
abbrev P11 := k0_part11 (F := F) aM (Memref.isWhole_whole _) rM (Memref.isWhole_whole _) iM (Memref.isWhole_whole _) eM (Memref.isWhole_whole _) hM (Memref.isWhole_whole _) oM (Memref.isWhole_whole _) xbM (Memref.isWhole_whole _) cbM (Memref.isWhole_whole _) acM (Memref.isWhole_whole _) saM (Memref.isWhole_whole _) raM (Memref.isWhole_whole _) sbM (Memref.isWhole_whole _) rbM (Memref.isWhole_whole _) cc0_scratch7 cc0_scratch8
abbrev P12 := k0_part12 (F := F) aM (Memref.isWhole_whole _) rM (Memref.isWhole_whole _) iM (Memref.isWhole_whole _) eM (Memref.isWhole_whole _) hM (Memref.isWhole_whole _) oM (Memref.isWhole_whole _) xbM (Memref.isWhole_whole _) cbM (Memref.isWhole_whole _) acM (Memref.isWhole_whole _) saM (Memref.isWhole_whole _) raM (Memref.isWhole_whole _) sbM (Memref.isWhole_whole _) rbM (Memref.isWhole_whole _) cc0_scratch7 cc0_scratch8
abbrev P13 := k0_part13 (F := F) aM (Memref.isWhole_whole _) rM (Memref.isWhole_whole _) iM (Memref.isWhole_whole _) eM (Memref.isWhole_whole _) hM (Memref.isWhole_whole _) oM (Memref.isWhole_whole _) xbM (Memref.isWhole_whole _) cbM (Memref.isWhole_whole _) acM (Memref.isWhole_whole _) saM (Memref.isWhole_whole _) raM (Memref.isWhole_whole _) sbM (Memref.isWhole_whole _) rbM (Memref.isWhole_whole _) cc0_scratch7 cc0_scratch8
abbrev P14 := k0_part14 (F := F) aM (Memref.isWhole_whole _) rM (Memref.isWhole_whole _) iM (Memref.isWhole_whole _) eM (Memref.isWhole_whole _) hM (Memref.isWhole_whole _) oM (Memref.isWhole_whole _) xbM (Memref.isWhole_whole _) cbM (Memref.isWhole_whole _) acM (Memref.isWhole_whole _) saM (Memref.isWhole_whole _) raM (Memref.isWhole_whole _) sbM (Memref.isWhole_whole _) rbM (Memref.isWhole_whole _) cc0_scratch7 cc0_scratch8
abbrev P15 := k0_part15 (F := F) aM (Memref.isWhole_whole _) rM (Memref.isWhole_whole _) iM (Memref.isWhole_whole _) eM (Memref.isWhole_whole _) hM (Memref.isWhole_whole _) oM (Memref.isWhole_whole _) xbM (Memref.isWhole_whole _) cbM (Memref.isWhole_whole _) acM (Memref.isWhole_whole _) saM (Memref.isWhole_whole _) raM (Memref.isWhole_whole _) sbM (Memref.isWhole_whole _) rbM (Memref.isWhole_whole _) cc0_scratch7 cc0_scratch8
abbrev P16 := k0_part16 (F := F) aM (Memref.isWhole_whole _) rM (Memref.isWhole_whole _) iM (Memref.isWhole_whole _) eM (Memref.isWhole_whole _) hM (Memref.isWhole_whole _) oM (Memref.isWhole_whole _) xbM (Memref.isWhole_whole _) cbM (Memref.isWhole_whole _) acM (Memref.isWhole_whole _) saM (Memref.isWhole_whole _) raM (Memref.isWhole_whole _) sbM (Memref.isWhole_whole _) rbM (Memref.isWhole_whole _) cc0_scratch7 cc0_scratch8
abbrev P17 := k0_part17 (F := F) aM (Memref.isWhole_whole _) rM (Memref.isWhole_whole _) iM (Memref.isWhole_whole _) eM (Memref.isWhole_whole _) hM (Memref.isWhole_whole _) oM (Memref.isWhole_whole _) xbM (Memref.isWhole_whole _) cbM (Memref.isWhole_whole _) acM (Memref.isWhole_whole _) saM (Memref.isWhole_whole _) raM (Memref.isWhole_whole _) sbM (Memref.isWhole_whole _) rbM (Memref.isWhole_whole _) cc0_scratch7 cc0_scratch8
end Progs

/-- Device `c` holds the whole buffer `b`, at contents `f`. -/
abbrev own (c : Dev nD) (b : Ref sig .tc) (f : b.ty.Contents (Elt F)) : sProp 𝕄 := ((c : Thread nD τ).loc b) ↦{fullShare} f

theorem hz2 : (![0, 0] : Fin 2 → ℕ) = fun _ => 0 := by decide
theorem hz3 : (![0, 0, 0] : Fin 3 → ℕ) = fun _ => 0 := by decide
omit [FloatOps F] in
theorem all_xb (f : Vec F S1024x512 .bf16) : xbM.view.readAt (Elt F) (Rect.unit (s := S1024x512) ![0, 0] S1024x512.size inb_S1024x512_S1024x512_0_0).toLoadRect f = f :=
  Memref.readAt_unit_zero (Elt F) cc0_scratch0 hz2 _ f
omit [FloatOps F] in
theorem put_xb (f w : Vec F S1024x512 .bf16) : (xbM.access (Rect.unit (s := S1024x512) ![0, 0] S1024x512.size inb_S1024x512_S1024x512_0_0)).write (Elt F) f w Finset.univ = w :=
  Memref.write_access_unit_zero_univ (Elt F) cc0_scratch0 hz2 _ f w
omit [FloatOps F] in
theorem all_cb (f : Vec F S1024x4 .bf16) : cbM.view.readAt (Elt F) (Rect.unit (s := S1024x4) ![0, 0] S1024x4.size inb_S1024x4_S1024x4_0_0).toLoadRect f = f :=
  Memref.readAt_unit_zero (Elt F) cc0_scratch1 hz2 _ f
omit [FloatOps F] in
theorem put_cb (f w : Vec F S1024x4 .bf16) : (cbM.access (Rect.unit (s := S1024x4) ![0, 0] S1024x4.size inb_S1024x4_S1024x4_0_0)).write (Elt F) f w Finset.univ = w :=
  Memref.write_access_unit_zero_univ (Elt F) cc0_scratch1 hz2 _ f w
omit [FloatOps F] in
theorem all_ac (f : Vec F S512x1024 .bf16) : acM.view.readAt (Elt F) (Rect.unit (s := S512x1024) ![0, 0] S512x1024.size inb_S512x1024_S512x1024_0_0).toLoadRect f = f :=
  Memref.readAt_unit_zero (Elt F) cc0_scratch2 hz2 _ f
omit [FloatOps F] in
theorem put_ac (f w : Vec F S512x1024 .bf16) : (acM.access (Rect.unit (s := S512x1024) ![0, 0] S512x1024.size inb_S512x1024_S512x1024_0_0)).write (Elt F) f w Finset.univ = w :=
  Memref.write_access_unit_zero_univ (Elt F) cc0_scratch2 hz2 _ f w
omit [FloatOps F] in
theorem all_sa (f : Vec F S112x1024 .bf16) : saM.view.readAt (Elt F) (Rect.unit (s := S112x1024) ![0, 0] S112x1024.size inb_S112x1024_S112x1024_0_0).toLoadRect f = f :=
  Memref.readAt_unit_zero (Elt F) cc0_scratch3 hz2 _ f
omit [FloatOps F] in
theorem put_sa (f w : Vec F S112x1024 .bf16) : (saM.access (Rect.unit (s := S112x1024) ![0, 0] S112x1024.size inb_S112x1024_S112x1024_0_0)).write (Elt F) f w Finset.univ = w :=
  Memref.write_access_unit_zero_univ (Elt F) cc0_scratch3 hz2 _ f w
omit [FloatOps F] in
theorem all_ra (f : Vec F S112x1024 .bf16) : raM.view.readAt (Elt F) (Rect.unit (s := S112x1024) ![0, 0] S112x1024.size inb_S112x1024_S112x1024_0_0).toLoadRect f = f :=
  Memref.readAt_unit_zero (Elt F) cc0_scratch4 hz2 _ f
omit [FloatOps F] in
theorem all_x (f : Vec F S1024x512 .f32) : aM.view.readAt (Elt F) (Rect.unit (s := S1024x512) ![0, 0] S1024x512.size inb_S1024x512_S1024x512_0_0).toLoadRect f = f :=
  Memref.readAt_unit_zero (Elt F) cc0_stg0_0 hz2 _ f
omit [FloatOps F] in
theorem all_r (f : Vec F S512x32 .f32) : rM.view.readAt (Elt F) (Rect.unit (s := S512x32) ![0, 0] S512x32.size inb_S512x32_S512x32_0_0).toLoadRect f = f :=
  Memref.readAt_unit_zero (Elt F) cc0_stg1_0 hz2 _ f
omit [FloatOps F] in
theorem all_i (f : Vec F S1024x1 .i32) : iM.view.readAt (Elt F) (Rect.unit (s := S1024x1) ![0, 0] S1024x1.size inb_S1024x1_S1024x1_0_0).toLoadRect f = f :=
  Memref.readAt_unit_zero (Elt F) cc0_stg2_0 hz2 _ f
omit [FloatOps F] in
theorem all_h (f : Vec F S512x1024 .f32) : hM.view.readAt (Elt F) (Rect.unit (s := S512x1024) ![0, 0] S512x1024.size inb_S512x1024_S512x1024_0_0).toLoadRect f = f :=
  Memref.readAt_unit_zero (Elt F) cc0_stg4_0 hz2 _ f
omit [FloatOps F] in
theorem all_o (f : Vec F S128x1024 .f32) : oM.view.readAt (Elt F) (Rect.unit (s := S128x1024) ![0, 0] S128x1024.size inb_S128x1024_S128x1024_0_0).toLoadRect f = f :=
  Memref.readAt_unit_zero (Elt F) cc0_stg5_0 hz2 _ f
omit [FloatOps F] in
theorem put_o (f w : Vec F S128x1024 .f32) : (oM.access (Rect.unit (s := S128x1024) ![0, 0] S128x1024.size inb_S128x1024_S128x1024_0_0)).write (Elt F) f w Finset.univ = w :=
  Memref.write_access_unit_zero_univ (Elt F) cc0_stg5_0 hz2 _ f w
omit [FloatOps F] in
theorem all_e (f : Vec F S4x512x1024 .f32) : eM.view.readAt (Elt F) (Rect.unit (s := S4x512x1024) ![0, 0, 0] S4x512x1024.size inb_S4x512x1024_S4x512x1024_0_0_0).toLoadRect f = f :=
  Memref.readAt_unit_zero (Elt F) cc0_stg3_0 hz3 _ f
theorem got8 (c : Dev nD) : bigSep ((sched (F := F) m).duties (kcell (c, 8)) 0 \ ∅) (fun d => (sched (F := F) m).payload (kcell (c, 8)) 0 d)
    = hold raM c (saV m (pt c)) := rest_k m c 8 rfl
theorem got7 (c : Dev nD) : bigSep ((sched (F := F) m).duties (kcell (c, 7)) 0 \ ∅) (fun d => (sched (F := F) m).payload (kcell (c, 7)) 0 d)
    = hold rbS2 c (rbV m c) := rest_k m c 7 rfl
theorem got6 (c : Dev nD) : bigSep ((sched (F := F) m).duties (kcell (c, 6)) 0 \ ∅) (fun d => (sched (F := F) m).payload (kcell (c, 6)) 0 d)
    = hold rbS1 c (rbV m c) := rest_k m c 6 rfl
theorem got5 (c : Dev nD) : bigSep ((sched (F := F) m).duties (kcell (c, 5)) 0 \ ∅) (fun d => (sched (F := F) m).payload (kcell (c, 5)) 0 d)
    = hold rbS0 c (rbV m c) := rest_k m c 5 rfl
theorem got4 (c : Dev nD) : bigSep ((sched (F := F) m).duties (kcell (c, 4)) 0 \ ∅) (fun d => (sched (F := F) m).payload (kcell (c, 4)) 0 d)
    = hold saM c (saV m c) := rest_k m c 4 rfl
theorem got3 (c : Dev nD) : bigSep ((sched (F := F) m).duties (kcell (c, 3)) 0 \ ∅) (fun d => (sched (F := F) m).payload (kcell (c, 3)) 0 d)
    = hold sbS2 c (sbV m c) := rest_k m c 3 rfl
theorem got2 (c : Dev nD) : bigSep ((sched (F := F) m).duties (kcell (c, 2)) 0 \ ∅) (fun d => (sched (F := F) m).payload (kcell (c, 2)) 0 d)
    = hold sbS1 c (sbV m c) := rest_k m c 2 rfl
theorem got1 (c : Dev nD) : bigSep ((sched (F := F) m).duties (kcell (c, 1)) 0 \ ∅) (fun d => (sched (F := F) m).payload (kcell (c, 1)) 0 d)
    = hold sbS0 c (sbV m c) := rest_k m c 1 rfl

omit [FloatOps F] in
theorem pay_pt (c : Dev nD) : (iprop(∃ f, hold raM c f) : sProp 𝕄) = barPay (pt c) 0 := by
  show _ = (iprop(∃ f, hold raM (pt (pt c)) f) : sProp 𝕄); rw [pt_pt]
omit [FloatOps F] in
theorem pay_pl1 (c : Dev nD) : (iprop(∃ f, hold rbS0 c f) : sProp 𝕄) = barPay (pl1 c) 1 := by
  show _ = (iprop(∃ f, hold rbS0 (pl3 (pl1 c)) f) : sProp 𝕄); rw [pl3_pl1]
omit [FloatOps F] in
theorem pay_pl2 (c : Dev nD) : (iprop(∃ f, hold rbS1 c f) : sProp 𝕄) = barPay (pl2 c) 2 := by
  show _ = (iprop(∃ f, hold rbS1 (pl2 (pl2 c)) f) : sProp 𝕄); rw [pl2_pl2]
omit [FloatOps F] in
theorem pay_pl3 (c : Dev nD) : (iprop(∃ f, hold rbS2 c f) : sProp 𝕄) = barPay (pl3 c) 3 := by
  show _ = (iprop(∃ f, hold rbS2 (pl1 (pl3 c)) f) : sProp 𝕄); rw [pl1_pl3]

/-- Part 2: the four signals, and the inputs read. -/
theorem part2 (c : Dev nD) (v4 v25 v30 v34 v35 c3 : BitVec 32) (Q : _ → sProp (MT nD τ sig Unit (Elt F) ℕ UU ℕ)) :
    iprop(rec m K ∗ owe c (O₀ c) ∗ tok (pt c, 0) 0 ∗ tok (pl1 c, 0) 1 ∗ tok (pl2 c, 0) 2 ∗ tok (pl3 c, 0) 3
        ∗ (∃ f, hold raM c f) ∗ (∃ f, hold rbS0 c f) ∗ (∃ f, hold rbS1 c f) ∗ (∃ f, hold rbS2 c f)
        ∗ own c cc0_stg0_0 (xV m c) ∗ own c cc0_stg1_0 (rwV m c) ∗ own c cc0_stg2_0 (ixV m c)
        ∗ ((owe c (OA c) ∗ own c cc0_stg0_0 (xV m c) ∗ own c cc0_stg1_0 (rwV m c) ∗ own c cc0_stg2_0 (ixV m c))
            -∗ Q ⟨k0_pay1 (xV m c), k0_pay2 (F := F) (ixV m c), k0_pay3 (xV m c) (rwV m c) (ixV m c)⟩))
      ⊢ wp frame (wpE (defs₀ (F := F)) 𝒱₀ (c : Thread nD τ) none) Set.univ
          (P2 F c v4 v25 (SemArray.scalar (sig.barrier 0 rfl)) v30 v34 v35 c3) Q := by
  simp only [P2, k0_part2_eq_skeleton]; unfold k0_part2_skel
  simp only [semSignalWord, semWaitWord, Prog.lift, Prog.bind_op, Prog.bind_ret, Prog.pure_eq_ret]
  simp only [dev1_eq c, dev2_eq c, dev3_eq c, dev4_eq c]
  iintro ⟨#HR, HO, Ht0, Ht1, Ht2, Ht3, Hra, Hb0, Hb1, Hb2, Hx, Hr, Hi, Hk⟩
  ihave Hra := (Entails.of_eq (pay_pt c)) $$ Hra
  ihave Hb0 := (Entails.of_eq (pay_pl1 c)) $$ Hb0
  ihave Hb1 := (Entails.of_eq (pay_pl2 c)) $$ Hb1
  ihave Hb2 := (Entails.of_eq (pay_pl3 c)) $$ Hb2
  unfold O₀
  iapply (step_signal m K c Q _ (pt c) 0 _ (by decide) (OS1 c)) $$ [HO Ht0 Hra]
  · isplitr; · iexact HR
    isplitl [HO]; · iexact HO
    isplitl [Ht0] <;> iassumption
  iintro HO; unfold OS1
  iapply (step_signal m K c Q _ (pl1 c) 1 _ (by decide) (OS2 c)) $$ [HO Ht1 Hb0]
  · isplitr; · iexact HR
    isplitl [HO]; · iexact HO
    isplitl [Ht1] <;> iassumption
  iintro HO; unfold OS2
  iapply (step_signal m K c Q _ (pl2 c) 2 _ (by decide) (OS3 c)) $$ [HO Ht2 Hb1]
  · isplitr; · iexact HR
    isplitl [HO]; · iexact HO
    isplitl [Ht2] <;> iassumption
  iintro HO; unfold OS3
  iapply (step_signal m K c Q _ (pl3 c) 3 _ (by decide) (OA c)) $$ [HO Ht3 Hb2]
  · isplitr; · iexact HR
    isplitl [HO]; · iexact HO
    isplitl [Ht3] <;> iassumption
  iintro HO
  iapply (wp_load 𝒱₀ (c : Thread nD τ) none Set.univ (m := aM) (Finset.subset_univ _)) $$ Hx; iintro Hx
  iapply (wp_load 𝒱₀ (c : Thread nD τ) none Set.univ (m := rM) (Finset.subset_univ _)) $$ Hr; iintro Hr
  iapply (wp_load 𝒱₀ (c : Thread nD τ) none Set.univ (m := iM) (Finset.subset_univ _)) $$ Hi; iintro Hi
  rw [all_x, all_r, all_i, wp_ret]; imodintro
  iapply Hk
  isplitl [HO]; · iexact HO
  isplitl [Hx]; · iexact Hx
  isplitl [Hr] <;> iassumption

omit [FloatOps F] in
theorem own_sa (c : Dev nD) (f) : own c cc0_scratch3 f = (hold saM c f : sProp 𝕄) := by
  unfold hold; rw [show saM.view.set = Finset.univ from View.set_whole _]
omit [FloatOps F] in
theorem own_ra (c : Dev nD) (f) : own c cc0_scratch4 f = (hold raM c f : sProp 𝕄) := by
  unfold hold; rw [show raM.view.set = Finset.univ from View.set_whole _]
omit [FloatOps F] in
theorem hold_sb0 (c : Dev nD) (f) : (hold sbS0 c f : sProp 𝕄) = (sbM.view.loc (c : Thread nD τ) ↦[sbS0.view.set]{fullShare} f) := rfl
omit [FloatOps F] in
theorem hold_sb1 (c : Dev nD) (f) : (hold sbS1 c f : sProp 𝕄) = (sbM.view.loc (c : Thread nD τ) ↦[sbS1.view.set]{fullShare} f) := rfl
omit [FloatOps F] in
theorem hold_sb2 (c : Dev nD) (f) : (hold sbS2 c f : sProp 𝕄) = (sbM.view.loc (c : Thread nD τ) ↦[sbS2.view.set]{fullShare} f) := rfl
omit [FloatOps F] in
theorem hold_rb0 (c : Dev nD) (f) : (hold rbS0 c f : sProp 𝕄) = (rbM.view.loc (c : Thread nD τ) ↦[rbS0.view.set]{fullShare} f) := rfl
omit [FloatOps F] in
theorem hold_rb1 (c : Dev nD) (f) : (hold rbS1 c f : sProp 𝕄) = (rbM.view.loc (c : Thread nD τ) ↦[rbS1.view.set]{fullShare} f) := rfl
omit [FloatOps F] in
theorem hold_rb2 (c : Dev nD) (f) : (hold rbS2 c f : sProp 𝕄) = (rbM.view.loc (c : Thread nD τ) ↦[rbS2.view.set]{fullShare} f) := rfl

/-- A device may wait at any cell when it owes nothing. -/
theorem free (c : Dev nD) (j : Fin 9) : (levAts L lv : sProp 𝕄) ⊢ MayWait (c : Thread nD τ) (csem j) () 0 := by
  rw [MayWait_zero]; iintro -; iempintro

/-- The other half's packed partial rows, before the cast. -/
abbrev sa0V (c : Dev nD) : FVec F S112x1024 .bf16 :=
  k0_pay10 (wMe c) (ewV m c) (k0_pay7 (F := F) (ixO m c)) 4#32 (k0_pay8 (F := F) (ixO m c)) (k0_pay9 (F := F) (ixO m c)) 1#32
    (xbM.view.readAt (Elt F) (Rect.unit (s := S1024x512) (k0_off2 c) S512x512.size (k0_off2_inb c)).toLoadRect (xbV m c))
    (cbM.view.readAt (Elt F) (Rect.unit (s := S1024x4) (k0_off3 c) S512x4.size (k0_off3_inb c)).toLoadRect (cbV m c))
theorem own_sa0 (c : Dev nD) : own c cc0_scratch3 (k0_pay11 (sa0V m c)) ⊢ hold saM c (saV m c) := Entails.of_eq (own_sa c (saV m c))
/-- The first peer's packed rows, before the cast. -/
abbrev sb0V (c : Dev nD) : FVec F S64x1024 .f32 :=
  k0_pay21 (wMp c) (k0_pay18 (F := F) (ixS1 m c)) 4#32 (k0_pay19 (F := F) (ixS1 m c)) (k0_pay20 (F := F) (ixS1 m c)) 0#32
    (acM.view.readAt (Elt F) (Rect.unit (s := S512x1024) (k0_off8 c 1#32) S128x1024.size (k0_off8_inb c 0)).toLoadRect (acV m c))
theorem put_q0 (c : Dev nD) (f : Vec F S3x64x1024 .bf16) :
    (((sbM.access q0).loc (c : Thread nD τ)) ↦[sbS0.view.set]{fullShare} ((sbM.access q0).write (Elt F) f (k0_pay22 (sb0V m c)) Finset.univ) : sProp 𝕄)
      ⊢ hold sbS0 c (sbV m c) := Entails.of_eq (store_q0 m c f)
theorem put_q1 (c : Dev nD) (f : Vec F S3x64x1024 .bf16) :
    (((sbM.access q1).loc (c : Thread nD τ)) ↦[sbS1.view.set]{fullShare} ((sbM.access q1).write (Elt F) f (k0_pay26 (wMp c) (k0_pay23 (F := F) (ixS2 m c)) 4#32 (k0_pay24 (F := F) (ixS2 m c)) (k0_pay25 (F := F) (ixS2 m c)) 1#32 0#1
        (acM.view.readAt (Elt F) (Rect.unit (s := S512x1024) (k0_off8 c 2#32) S128x1024.size (k0_off8_inb c 1)).toLoadRect (acV m c))) Finset.univ) : sProp 𝕄)
      ⊢ hold sbS1 c (sbV m c) := Entails.of_eq (store_q1 m c f)
theorem put_q2 (c : Dev nD) (f : Vec F S3x64x1024 .bf16) :
    (((sbM.access q2).loc (c : Thread nD τ)) ↦[sbS2.view.set]{fullShare} ((sbM.access q2).write (Elt F) f (k0_pay31 (wMp c) (k0_pay28 (F := F) (ixS3 m c)) (k0_pay29 (F := F) (ixS3 m c)) (k0_pay30 (F := F) (ixS3 m c))
        (acM.view.readAt (Elt F) (Rect.unit (s := S512x1024) (k0_off8 c 3#32) S128x1024.size (k0_off8_inb c 2)).toLoadRect (acV m c))) Finset.univ) : sProp 𝕄)
      ⊢ hold sbS2 c (sbV m c) := Entails.of_eq (store_q2 m c f)
theorem give_4 (c : Dev nD) : hold saM c (saV m c) ⊢ pay m c 4 0 := Entails.of_eq rfl
theorem give_8 (c : Dev nD) (fd : Buf (Elt F) (raM.view.loc (pt c : Thread nD τ))) :
    (raM.view.loc (pt c : Thread nD τ) ↦[raM.view.set]{fullShare} (raM.view.write (Elt F) fd (saM.view.read (Elt F) (saV m c)) Finset.univ) : sProp 𝕄) ⊢ pay m (pt c) 8 0 :=
  land_A m c fd
theorem give_1 (c : Dev nD) : hold sbS0 c (sbV m c) ⊢ pay m c 1 0 := Entails.of_eq rfl
theorem give_7 (c : Dev nD) (fd : Buf (Elt F) (rbS2.view.loc (pl1 c : Thread nD τ))) :
    (rbS2.view.loc (pl1 c : Thread nD τ) ↦[rbS2.view.set]{fullShare} (rbS2.view.write (Elt F) fd (sbS0.view.read (Elt F) (sbV m c)) Finset.univ) : sProp 𝕄) ⊢ pay m (pl1 c) 7 0 :=
  land_2 m c fd
theorem give_2 (c : Dev nD) : hold sbS1 c (sbV m c) ⊢ pay m c 2 0 := Entails.of_eq rfl
theorem give_6 (c : Dev nD) (fd : Buf (Elt F) (rbS1.view.loc (pl2 c : Thread nD τ))) :
    (rbS1.view.loc (pl2 c : Thread nD τ) ↦[rbS1.view.set]{fullShare} (rbS1.view.write (Elt F) fd (sbS1.view.read (Elt F) (sbV m c)) Finset.univ) : sProp 𝕄) ⊢ pay m (pl2 c) 6 0 :=
  land_1 m c fd
theorem give_3 (c : Dev nD) : hold sbS2 c (sbV m c) ⊢ pay m c 3 0 := Entails.of_eq rfl
theorem give_5 (c : Dev nD) (fd : Buf (Elt F) (rbS0.view.loc (pl3 c : Thread nD τ))) :
    (rbS0.view.loc (pl3 c : Thread nD τ) ↦[rbS0.view.set]{fullShare} (rbS0.view.write (Elt F) fd (sbS2.view.read (Elt F) (sbV m c)) Finset.univ) : sProp 𝕄) ⊢ pay m (pl3 c) 5 0 :=
  land_0 m c fd

theorem one_lit : Scalar.subi (Scalar.extui (Scalar.cmpi .sgt 4#32 0#32)) (Scalar.extui (Scalar.cmpi .slt 4#32 0#32)) = 1#32 := by decide
theorem ext_lit : (Scalar.extui (Scalar.cmpi .sgt 4#32 0#32) : BitVec 32) = 1#32 := by decide
theorem cmp_lit : Scalar.cmpi .slt 4#32 0#32 = 0#1 := by decide

/-- Part 3: the tokens and gates put away, the weights read, the barrier waited for. -/
theorem part3 (c : Dev nD) (v24 : BitVec 32) (Q : _ → sProp (MT nD τ sig Unit (Elt F) ℕ UU ℕ)) :
    iprop(rec m K ∗ levAts L lv ∗ owe c (OA c) ∗ crd (c, 0) 4 ∗ at0 (c, 0) ∗ (∃ f, own c cc0_scratch0 f) ∗ (∃ f, own c cc0_scratch1 f)
        ∗ own c cc0_stg3_0 (weV m c) ∗ own c cc0_stg2_0 (ixV m c)
        ∗ ((owe c (OA c) ∗ zer (c, 0) ∗ ((∃ f, hold raM (pt c) f) ∗ (∃ f, hold rbS0 (pl3 c) f) ∗ (∃ f, hold rbS1 (pl2 c) f) ∗ (∃ f, hold rbS2 (pl1 c) f))
              ∗ own c cc0_scratch0 (xbV m c) ∗ own c cc0_scratch1 (cbV m c) ∗ own c cc0_stg3_0 (weV m c) ∗ own c cc0_stg2_0 (ixV m c))
            -∗ Q ⟨ewV m c, k0_pay7 (F := F) (ixO m c), 4#32, k0_pay8 (F := F) (ixO m c), k0_pay9 (F := F) (ixO m c), 1#32⟩))
      ⊢ wp frame (wpE (defs₀ (F := F)) 𝒱₀ (c : Thread nD τ) none) Set.univ
          (P3 F c (wMe c) v24 (SemArray.scalar (sig.barrier 0 rfl)) (k0_pay1 (xV m c)) (k0_pay2 (F := F) (ixV m c)) (k0_pay3 (xV m c) (rwV m c) (ixV m c))) Q := by
  simp only [P3, k0_part3_eq_skeleton]; unfold k0_part3_skel
  simp only [semSignalWord, semWaitWord, Prog.lift, Prog.bind_op, Prog.bind_ret, Prog.pure_eq_ret]
  iintro ⟨#HR, #HL, HO, Hc, Hat, ⟨%f0, H0⟩, ⟨%f1, H1⟩, He, Hi, Hk⟩
  iapply (wp_load 𝒱₀ (c : Thread nD τ) none Set.univ (m := xbM) (Finset.subset_univ _)) $$ H0; iintro H0
  iapply (wp_store 𝒱₀ (c : Thread nD τ) none Set.univ (m := xbM) (r := Rect.unit (s := S1024x512) ![0, 0] S1024x512.size inb_S1024x512_S1024x512_0_0) (Mk := Finset.univ) (Finset.subset_univ _)) $$ H0; iintro H0
  rw [put_xb]
  iapply (wp_load 𝒱₀ (c : Thread nD τ) none Set.univ (m := cbM) (Finset.subset_univ _)) $$ H1; iintro H1
  iapply (wp_store 𝒱₀ (c : Thread nD τ) none Set.univ (m := cbM) (r := Rect.unit (s := S1024x4) ![0, 0] S1024x4.size inb_S1024x4_S1024x4_0_0) (Mk := Finset.univ) (Finset.subset_univ _)) $$ H1; iintro H1
  rw [put_cb]
  iapply (wp_load 𝒱₀ (c : Thread nD τ) none Set.univ (m := eM) (Finset.subset_univ _)) $$ He; iintro He
  iapply (step_wait m K c Q _ 0 _ _ (wpE_semWait_eq 𝒱₀ (c : Thread nD τ) none Set.univ) (by rw [expect_bar]; decide) (OA c) (mayWait c (csem 0) 1 (le_of_eq (lv_k (c, 0) ())) _ (above_OA c (by decide)))) $$ [Hc HO Hat]
  · isplitr; · iexact HR
    isplitr; · iexact HL
    isplitl [Hc]; · iexact Hc
    isplitl [HO]; · iexact HO
    iexact Hat
  iintro ⟨HO, Hz, Hpay⟩
  ihave Hpay := (Entails.of_eq (rest_bar m c)) $$ Hpay
  iapply (wp_load 𝒱₀ (c : Thread nD τ) none Set.univ (m := iM) (Finset.subset_univ _)) $$ Hi; iintro Hi
  rw [all_e, one_lit, wp_ret]; imodintro
  unfold ixO ewV xbV cbV
  iapply Hk
  isplitl [HO]; · iexact HO
  isplitl [Hz]; · iexact Hz
  isplitl [Hpay]; · iexact Hpay
  isplitl [H0]; · iexact H0
  isplitl [H1]; · iexact H1
  isplitl [He]; · iexact He
  iexact Hi

/-- Part 4: the other half's rows packed. -/
theorem part4 (c : Dev nD) (v24 : BitVec 32) (Q : _ → sProp (MT nD τ sig Unit (Elt F) ℕ UU ℕ)) :
    iprop(own c cc0_scratch0 (xbV m c) ∗ own c cc0_scratch1 (cbV m c)
        ∗ ((own c cc0_scratch0 (xbV m c) ∗ own c cc0_scratch1 (cbV m c)) -∗ Q (sa0V m c)))
      ⊢ wp frame (wpE (defs₀ (F := F)) 𝒱₀ (c : Thread nD τ) none) Set.univ
          (P4 F c (wMe c) v24 (ewV m c) (k0_pay7 (F := F) (ixO m c)) 4#32 (k0_pay8 (F := F) (ixO m c)) (k0_pay9 (F := F) (ixO m c)) 1#32) Q := by
  simp only [P4, k0_part4_eq_skeleton]; unfold k0_part4_skel
  simp only [semSignalWord, semWaitWord, Prog.lift, Prog.bind_op, Prog.bind_ret, Prog.pure_eq_ret]
  iintro ⟨H0, H1, Hk⟩
  iapply (wp_load 𝒱₀ (c : Thread nD τ) none Set.univ (m := xbM) (Finset.subset_univ _)) $$ H0; iintro H0
  iapply (wp_load 𝒱₀ (c : Thread nD τ) none Set.univ (m := cbM) (Finset.subset_univ _)) $$ H1; iintro H1
  rw [wp_ret]; imodintro
  iapply Hk
  isplitl [H0]; · iexact H0
  iexact H1

/-- Part 5: they go to the other plane; the own half's routes read. -/
theorem part5 (c : Dev nD) (v4 v22 : BitVec 32) (Q : _ → sProp (MT nD τ sig Unit (Elt F) ℕ UU ℕ)) :
    iprop(rec m K ∗ owe c (OA c) ∗ (∃ f, own c cc0_scratch3 f) ∗ (∃ f, hold raM (pt c) f) ∗ tok (c, 4) 0 ∗ tok (pt c, 8) 0 ∗ own c cc0_stg2_0 (ixV m c)
        ∗ ((crd (c, 4) NA ∗ owe c (O1 c) ∗ own c cc0_stg2_0 (ixV m c))
            -∗ Q ⟨k0_pay12 (F := F) (ixM m c), k0_pay13 (F := F) (wMe c) (ixM m c), k0_pay14⟩))
      ⊢ wp frame (wpE (defs₀ (F := F)) 𝒱₀ (c : Thread nD τ) none) Set.univ (P5 F c (wMe c) v4 v22 (sa0V m c)) Q := by
  simp only [P5, k0_part5_eq_skeleton]; unfold k0_part5_skel
  simp only [semSignalWord, semWaitWord, Prog.lift, Prog.bind_op, Prog.bind_ret, Prog.pure_eq_ret]
  iintro ⟨#HR, HO, ⟨%f3, H3⟩, ⟨%f4, H4⟩, Ht1, Ht2, Hi, Hk⟩
  iapply (wp_load 𝒱₀ (c : Thread nD τ) none Set.univ (m := saM) (Finset.subset_univ _)) $$ H3; iintro H3
  iapply (wp_store 𝒱₀ (c : Thread nD τ) none Set.univ (m := saM) (r := Rect.unit (s := S112x1024) ![0, 0] S112x1024.size inb_S112x1024_S112x1024_0_0) (Mk := Finset.univ) (Finset.subset_univ _)) $$ H3; iintro H3
  rw [put_sa]
  ihave H3 := (own_sa0 m c) $$ H3
  unfold OA
  iapply (step_send m K c Q _ (src := saM) (dst := raM) (pt c) _ (dev5_eq c) 4 8 rfl rfl rfl rfl NA rfl rfl rfl (saV m c) _ (give_4 m c) (give_8 m c _) (O1 c)) $$ [H3 H4 HO Ht1 Ht2]
  · isplitr; · iexact HR
    isplitl [H3]; · iexact H3
    isplitl [H4]; · iexact H4
    isplitl [HO]; · iexact HO
    isplitl [Ht1] <;> iassumption
  iintro ⟨Hc, HO⟩
  iapply (wp_load 𝒱₀ (c : Thread nD τ) none Set.univ (m := iM) (Finset.subset_univ _)) $$ Hi; iintro Hi
  rw [wp_ret]; imodintro
  unfold ixM
  iapply Hk
  isplitl [Hc]; · iexact Hc
  isplitl [HO]; · iexact HO
  iexact Hi

/-- Part 6: the own half's rows; the other plane's have come. -/
theorem part6 (c : Dev nD) (v22 : BitVec 32) (Q : _ → sProp (MT nD τ sig Unit (Elt F) ℕ UU ℕ)) :
    iprop(rec m K ∗ levAts L lv ∗ owe c (O1 c) ∗ crd (c, 8) NA ∗ at0 (c, 8) ∗ own c cc0_scratch0 (xbV m c) ∗ own c cc0_scratch1 (cbV m c) ∗ (∃ f, own c cc0_scratch2 f)
        ∗ ((owe c (O1 c) ∗ zer (c, 8) ∗ own c cc0_scratch4 (saV m (pt c)) ∗ own c cc0_scratch0 (xbV m c) ∗ own c cc0_scratch1 (cbV m c) ∗ own c cc0_scratch2 (ac0V m c))
            -∗ Q (k0_pay16 (wPt c) (k0_pay12 (F := F) (ixM m c)))))
      ⊢ wp frame (wpE (defs₀ (F := F)) 𝒱₀ (c : Thread nD τ) none) Set.univ
          (P6 F c (wPt c) v22 (ewV m c) (k0_pay12 (F := F) (ixM m c)) (k0_pay13 (F := F) (wMe c) (ixM m c)) k0_pay14) Q := by
  simp only [P6, k0_part6_eq_skeleton]; unfold k0_part6_skel
  simp only [semSignalWord, semWaitWord, Prog.lift, Prog.bind_op, Prog.bind_ret, Prog.pure_eq_ret]
  iintro ⟨#HR, #HL, HO, Hc, Hat, H0, H1, ⟨%f2, H2⟩, Hk⟩
  iapply (wp_load 𝒱₀ (c : Thread nD τ) none Set.univ (m := xbM) (Finset.subset_univ _)) $$ H0; iintro H0
  iapply (wp_load 𝒱₀ (c : Thread nD τ) none Set.univ (m := cbM) (Finset.subset_univ _)) $$ H1; iintro H1
  iapply (wp_load 𝒱₀ (c : Thread nD τ) none Set.univ (m := acM) (Finset.subset_univ _)) $$ H2; iintro H2
  iapply (wp_store 𝒱₀ (c : Thread nD τ) none Set.univ (m := acM) (r := Rect.unit (s := S512x1024) ![0, 0] S512x1024.size inb_S512x1024_S512x1024_0_0) (Mk := Finset.univ) (Finset.subset_univ _)) $$ H2; iintro H2
  rw [put_ac]
  iapply (step_wait m K c Q _ 8 _ _ (wpE_waitDma2_eq 𝒱₀ (c : Thread nD τ) none Set.univ) (by rw [expect_k m c 8 rfl]; rfl) (O1 c) (mayWait c (csem 8) 2 (le_of_eq (lv_k (c, 8) ())) _ (above_O1 c (by decide)))) $$ [Hc HO Hat]
  · isplitr; · iexact HR
    isplitr; · iexact HL
    isplitl [Hc]; · iexact Hc
    isplitl [HO]; · iexact HO
    iexact Hat
  iintro ⟨HO, Hz, Hpay⟩
  ihave Hpay := (Entails.of_eq (got8 m c)) $$ Hpay
  ihave Hpay := (Entails.of_eq (own_ra c (saV m (pt c))).symm) $$ Hpay
  rw [wp_ret]; imodintro
  unfold ac0V
  iapply Hk
  isplitl [HO]; · iexact HO
  isplitl [Hz]; · iexact Hz
  isplitl [Hpay]; · iexact Hpay
  isplitl [H0]; · iexact H0
  isplitl [H1]; · iexact H1
  iexact H2

/-- Part 7: they are put in; the first peer's routes read. -/
theorem part7 (c : Dev nD) (v22 v25 : BitVec 32) (Q : _ → sProp (MT nD τ sig Unit (Elt F) ℕ UU ℕ)) :
    iprop(own c cc0_scratch2 (ac0V m c) ∗ own c cc0_scratch4 (saV m (pt c)) ∗ own c cc0_stg2_0 (ixV m c)
        ∗ ((own c cc0_scratch2 (acV m c) ∗ own c cc0_scratch4 (saV m (pt c)) ∗ own c cc0_stg2_0 (ixV m c))
            -∗ Q ⟨Scalar.remsi (Scalar.addi v25 1#32) 4#32, k0_pay18 (F := F) (ixS1 m c), 4#32, k0_pay19 (F := F) (ixS1 m c), k0_pay20 (F := F) (ixS1 m c), 0#32⟩))
      ⊢ wp frame (wpE (defs₀ (F := F)) 𝒱₀ (c : Thread nD τ) none) Set.univ (P7 F c v22 v25 (k0_pay16 (wPt c) (k0_pay12 (F := F) (ixM m c)))) Q := by
  simp only [P7, k0_part7_eq_skeleton]; unfold k0_part7_skel
  simp only [semSignalWord, semWaitWord, Prog.lift, Prog.bind_op, Prog.bind_ret, Prog.pure_eq_ret]
  iintro ⟨H2, H4, Hi, Hk⟩
  iapply (wp_load 𝒱₀ (c : Thread nD τ) none Set.univ (m := acM) (Finset.subset_univ _)) $$ H2; iintro H2
  iapply (wp_load 𝒱₀ (c : Thread nD τ) none Set.univ (m := raM) (Finset.subset_univ _)) $$ H4; iintro H4
  iapply (wp_load 𝒱₀ (c : Thread nD τ) none Set.univ (m := acM) (Finset.subset_univ _)) $$ H2; iintro H2
  iapply (wp_store 𝒱₀ (c : Thread nD τ) none Set.univ (m := acM) (r := Rect.unit (s := S512x1024) ![0, 0] S512x1024.size inb_S512x1024_S512x1024_0_0) (Mk := Finset.univ) (Finset.subset_univ _)) $$ H2; iintro H2
  rw [put_ac, all_ac, all_ra]
  iapply (wp_load 𝒱₀ (c : Thread nD τ) none Set.univ (m := iM) (Finset.subset_univ _)) $$ Hi; iintro Hi
  rw [wp_ret]; imodintro
  unfold acV ixS1
  iapply Hk
  isplitl [H2]; · iexact H2
  isplitl [H4]; · iexact H4
  iexact Hi

/-- Part 8: the first peer's rows packed. -/
theorem part8 (c : Dev nD) (v274 : BitVec 32) (Q : _ → sProp (MT nD τ sig Unit (Elt F) ℕ UU ℕ)) :
    iprop(own c cc0_scratch2 (acV m c) ∗ (own c cc0_scratch2 (acV m c) -∗ Q (sb0V m c)))
      ⊢ wp frame (wpE (defs₀ (F := F)) 𝒱₀ (c : Thread nD τ) none) Set.univ
          (P8 F c (wMp c) v274 (k0_pay18 (F := F) (ixS1 m c)) 4#32 (k0_pay19 (F := F) (ixS1 m c)) (k0_pay20 (F := F) (ixS1 m c)) 0#32) Q := by
  simp only [P8, k0_part8_eq_skeleton]; unfold k0_part8_skel
  simp only [semSignalWord, semWaitWord, Prog.lift, Prog.bind_op, Prog.bind_ret, Prog.pure_eq_ret]
  iintro ⟨H2, Hk⟩
  iapply (wp_load 𝒱₀ (c : Thread nD τ) none Set.univ (m := acM) (Finset.subset_univ _)) $$ H2; iintro H2
  rw [wp_ret]; imodintro
  iapply Hk
  iexact H2

/-- Part 9: they go to the first peer; the second peer's routes read. -/
theorem part9 (c : Dev nD) (v21 v22 v25 v274 : BitVec 32) (Q : _ → sProp (MT nD τ sig Unit (Elt F) ℕ UU ℕ)) :
    iprop(rec m K ∗ owe c (O1 c) ∗ (∃ f, hold sbS0 c f) ∗ (∃ f, hold rbS2 (pl1 c) f) ∗ tok (c, 1) 0 ∗ tok (pl1 c, 7) 0 ∗ own c cc0_stg2_0 (ixV m c)
        ∗ ((crd (c, 1) NB ∗ owe c (O2 c) ∗ own c cc0_stg2_0 (ixV m c))
            -∗ Q ⟨Scalar.addi (Scalar.muli v21 4#32) v274, Scalar.remsi (Scalar.addi v25 2#32) 4#32, k0_pay23 (F := F) (ixS2 m c), 4#32,
                  k0_pay24 (F := F) (ixS2 m c), k0_pay25 (F := F) (ixS2 m c), 1#32, 0#1⟩))
      ⊢ wp frame (wpE (defs₀ (F := F)) 𝒱₀ (c : Thread nD τ) none) Set.univ (P9 F c v21 v22 v25 v274 (sb0V m c)) Q := by
  simp only [P9, k0_part9_eq_skeleton]; unfold k0_part9_skel
  simp only [semSignalWord, semWaitWord, Prog.lift, Prog.bind_op, Prog.bind_ret, Prog.pure_eq_ret]
  iintro ⟨#HR, HO, ⟨%f5, H5⟩, ⟨%f6, H6⟩, Ht1, Ht2, Hi, Hk⟩
  ihave H5 := (Entails.of_eq (hold_sb0 c f5)) $$ H5
  iapply (wp_load 𝒱₀ (c : Thread nD τ) none Set.univ (m := sbM) load_sbS0) $$ H5; iintro H5
  iapply (wp_store 𝒱₀ (c : Thread nD τ) none Set.univ (m := sbM) (r := q0) (Mk := Finset.univ) put_sbS0) $$ H5; iintro H5
  ihave H5 := (put_q0 m c f5) $$ H5
  unfold O1
  iapply (step_send m K c Q _ (src := sbS0) (dst := rbS2) (pl1 c) _ (dev6_eq c) 1 7 rfl rfl rfl rfl NB rfl rfl rfl (sbV m c) _ (give_1 m c) (give_7 m c _) (O2 c)) $$ [H5 H6 HO Ht1 Ht2]
  · isplitr; · iexact HR
    isplitl [H5]; · iexact H5
    isplitl [H6]; · iexact H6
    isplitl [HO]; · iexact HO
    isplitl [Ht1] <;> iassumption
  iintro ⟨Hc, HO⟩
  iapply (wp_load 𝒱₀ (c : Thread nD τ) none Set.univ (m := iM) (Finset.subset_univ _)) $$ Hi; iintro Hi
  rw [ext_lit, cmp_lit, wp_ret]; imodintro
  unfold ixS2
  iapply Hk
  isplitl [Hc]; · iexact Hc
  isplitl [HO]; · iexact HO
  iexact Hi

/-- Part 10: the second peer's rows packed. -/
theorem part10 (c : Dev nD) (v350 : BitVec 32) (Q : _ → sProp (MT nD τ sig Unit (Elt F) ℕ UU ℕ)) :
    iprop(own c cc0_scratch2 (acV m c) ∗ (∃ f, hold sbS1 c f) ∗ ((own c cc0_scratch2 (acV m c) ∗ hold sbS1 c (sbV m c)) -∗ Q 4#32))
      ⊢ wp frame (wpE (defs₀ (F := F)) 𝒱₀ (c : Thread nD τ) none) Set.univ
          (P10 F c (wMp c) v350 (k0_pay23 (F := F) (ixS2 m c)) 4#32 (k0_pay24 (F := F) (ixS2 m c)) (k0_pay25 (F := F) (ixS2 m c)) 1#32 0#1) Q := by
  simp only [P10, k0_part10_eq_skeleton]; unfold k0_part10_skel
  simp only [semSignalWord, semWaitWord, Prog.lift, Prog.bind_op, Prog.bind_ret, Prog.pure_eq_ret]
  iintro ⟨H2, ⟨%f5, H5⟩, Hk⟩
  ihave H5 := (Entails.of_eq (hold_sb1 c f5)) $$ H5
  iapply (wp_load 𝒱₀ (c : Thread nD τ) none Set.univ (m := acM) (Finset.subset_univ _)) $$ H2; iintro H2
  iapply (wp_load 𝒱₀ (c : Thread nD τ) none Set.univ (m := sbM) load_sbS1) $$ H5; iintro H5
  iapply (wp_store 𝒱₀ (c : Thread nD τ) none Set.univ (m := sbM) (r := q1) (Mk := Finset.univ) put_sbS1) $$ H5; iintro H5
  ihave H5 := (put_q1 m c f5) $$ H5
  rw [wp_ret]; imodintro
  iapply Hk
  isplitl [H2]; · iexact H2
  iexact H5

/-- Part 11: they go to the second peer; the third peer's routes read. -/
theorem part11 (c : Dev nD) (v21 v22 v25 v350 c4 : BitVec 32) (Q : _ → sProp (MT nD τ sig Unit (Elt F) ℕ UU ℕ)) :
    iprop(rec m K ∗ owe c (O2 c) ∗ hold sbS1 c (sbV m c) ∗ (∃ f, hold rbS1 (pl2 c) f) ∗ tok (c, 2) 0 ∗ tok (pl2 c, 6) 0 ∗ own c cc0_stg2_0 (ixV m c)
        ∗ ((crd (c, 2) NB ∗ owe c (O3 c) ∗ own c cc0_stg2_0 (ixV m c))
            -∗ Q ⟨Scalar.addi (Scalar.muli v21 c4) v350, Scalar.remsi (Scalar.addi v25 3#32) 4#32, k0_pay28 (F := F) (ixS3 m c),
                  k0_pay29 (F := F) (ixS3 m c), k0_pay30 (F := F) (ixS3 m c)⟩))
      ⊢ wp frame (wpE (defs₀ (F := F)) 𝒱₀ (c : Thread nD τ) none) Set.univ (P11 F c v21 v22 v25 v350 c4) Q := by
  simp only [P11, k0_part11_eq_skeleton]; unfold k0_part11_skel
  simp only [semSignalWord, semWaitWord, Prog.lift, Prog.bind_op, Prog.bind_ret, Prog.pure_eq_ret]
  iintro ⟨#HR, HO, H5, ⟨%f6, H6⟩, Ht1, Ht2, Hi, Hk⟩
  unfold O2
  iapply (step_send m K c Q _ (src := sbS1) (dst := rbS1) (pl2 c) _ (dev7_eq c) 2 6 rfl rfl rfl rfl NB rfl rfl rfl (sbV m c) _ (give_2 m c) (give_6 m c _) (O3 c)) $$ [H5 H6 HO Ht1 Ht2]
  · isplitr; · iexact HR
    isplitl [H5]; · iexact H5
    isplitl [H6]; · iexact H6
    isplitl [HO]; · iexact HO
    isplitl [Ht1] <;> iassumption
  iintro ⟨Hc, HO⟩
  iapply (wp_load 𝒱₀ (c : Thread nD τ) none Set.univ (m := iM) (Finset.subset_univ _)) $$ Hi; iintro Hi
  rw [wp_ret]; imodintro
  unfold ixS3
  iapply Hk
  isplitl [Hc]; · iexact Hc
  isplitl [HO]; · iexact HO
  iexact Hi

/-- Part 12: the third peer's rows packed. -/
theorem part12 (c : Dev nD) (v21 v426 : BitVec 32) (Q : _ → sProp (MT nD τ sig Unit (Elt F) ℕ UU ℕ)) :
    iprop(own c cc0_scratch2 (acV m c) ∗ (∃ f, hold sbS2 c f) ∗ ((own c cc0_scratch2 (acV m c) ∗ hold sbS2 c (sbV m c))
            -∗ Q ⟨Scalar.addi (Scalar.muli v21 4#32) v426, Scalar.muli (Scalar.addi (Scalar.muli v21 4#32) v426) 1#32, 0#32⟩))
      ⊢ wp frame (wpE (defs₀ (F := F)) 𝒱₀ (c : Thread nD τ) none) Set.univ
          (P12 F c v21 (wMp c) v426 (k0_pay28 (F := F) (ixS3 m c)) (k0_pay29 (F := F) (ixS3 m c)) (k0_pay30 (F := F) (ixS3 m c))) Q := by
  simp only [P12, k0_part12_eq_skeleton]; unfold k0_part12_skel
  simp only [semSignalWord, semWaitWord, Prog.lift, Prog.bind_op, Prog.bind_ret, Prog.pure_eq_ret]
  iintro ⟨H2, ⟨%f5, H5⟩, Hk⟩
  ihave H5 := (Entails.of_eq (hold_sb2 c f5)) $$ H5
  iapply (wp_load 𝒱₀ (c : Thread nD τ) none Set.univ (m := acM) (Finset.subset_univ _)) $$ H2; iintro H2
  iapply (wp_load 𝒱₀ (c : Thread nD τ) none Set.univ (m := sbM) load_sbS2) $$ H5; iintro H5
  iapply (wp_store 𝒱₀ (c : Thread nD τ) none Set.univ (m := sbM) (r := q2) (Mk := Finset.univ) put_sbS2) $$ H5; iintro H5
  ihave H5 := (put_q2 m c f5) $$ H5
  rw [wp_ret]; imodintro
  iapply Hk
  isplitl [H2]; · iexact H2
  iexact H5

/-- Part 13: they go to the third peer; the own chunk's shared expert and accumulated rows; its routes read. -/
theorem part13 (c : Dev nD) (v2 v25 v491 c0 : BitVec 32) (Q : _ → sProp (MT nD τ sig Unit (Elt F) ℕ UU ℕ)) :
    iprop(rec m K ∗ owe c (O3 c) ∗ hold sbS2 c (sbV m c) ∗ (∃ f, hold rbS0 (pl3 c) f) ∗ tok (c, 3) 0 ∗ tok (pl3 c, 5) 0
        ∗ own c cc0_stg0_0 (xV m c) ∗ own c cc0_stg4_0 (wsV m c) ∗ own c cc0_scratch2 (acV m c) ∗ (∃ f, own c cc0_stg5_0 f) ∗ own c cc0_stg2_0 (ixV m c)
        ∗ ((crd (c, 3) NB ∗ owe c 0 ∗ own c cc0_stg0_0 (xV m c) ∗ own c cc0_stg4_0 (wsV m c) ∗ own c cc0_scratch2 (acV m c) ∗ own c cc0_stg5_0 (o0V m c)
              ∗ own c cc0_stg2_0 (ixV m c))
            -∗ Q ⟨g0 m c, 4#32, g1 m c, g2 m c, 1#32, 0#1⟩))
      ⊢ wp frame (wpE (defs₀ (F := F)) 𝒱₀ (c : Thread nD τ) none) Set.univ (P13 F c v2 v25 v491 c0) Q := by
  simp only [P13, k0_part13_eq_skeleton]; unfold k0_part13_skel
  simp only [semSignalWord, semWaitWord, Prog.lift, Prog.bind_op, Prog.bind_ret, Prog.pure_eq_ret]
  iintro ⟨#HR, HO, H5, ⟨%f6, H6⟩, Ht1, Ht2, Hx, Hh, H2, ⟨%fo, Ho⟩, Hi, Hk⟩
  unfold O3
  rw [← zero_add (tallyAt (kcell (pl3 c, 5)) () NB)]
  iapply (step_send m K c Q _ (src := sbS2) (dst := rbS0) (pl3 c) _ (dev8_eq c) 3 5 rfl rfl rfl rfl NB rfl rfl rfl (sbV m c) _ (give_3 m c) (give_5 m c _) (0)) $$ [H5 H6 HO Ht1 Ht2]
  · isplitr; · iexact HR
    isplitl [H5]; · iexact H5
    isplitl [H6]; · iexact H6
    isplitl [HO]; · iexact HO
    isplitl [Ht1] <;> iassumption
  iintro ⟨Hc, HO⟩
  iapply (wp_load 𝒱₀ (c : Thread nD τ) none Set.univ (m := aM) (Finset.subset_univ _)) $$ Hx; iintro Hx
  iapply (wp_load 𝒱₀ (c : Thread nD τ) none Set.univ (m := hM) (Finset.subset_univ _)) $$ Hh; iintro Hh
  iapply (wp_load 𝒱₀ (c : Thread nD τ) none Set.univ (m := acM) (Finset.subset_univ _)) $$ H2; iintro H2
  iapply (wp_load 𝒱₀ (c : Thread nD τ) none Set.univ (m := oM) (Finset.subset_univ _)) $$ Ho; iintro Ho
  iapply (wp_store 𝒱₀ (c : Thread nD τ) none Set.univ (m := oM) (r := Rect.unit (s := S128x1024) ![0, 0] S128x1024.size inb_S128x1024_S128x1024_0_0) (Mk := Finset.univ) (Finset.subset_univ _)) $$ Ho; iintro Ho
  rw [put_o, all_h]
  iapply (wp_load 𝒱₀ (c : Thread nD τ) none Set.univ (m := iM) (Finset.subset_univ _)) $$ Hi; iintro Hi
  rw [ext_lit, cmp_lit, wp_ret]; imodintro
  unfold g0 g1 g2 ixC o0V
  iapply Hk
  isplitl [Hc]; · iexact Hc
  isplitl [HO]; · iexact HO
  isplitl [Hx]; · iexact Hx
  isplitl [Hh]; · iexact Hh
  isplitl [H2]; · iexact H2
  isplitl [Ho]; · iexact Ho
  iexact Hi

/-- Parts 14 and 15: the matrices that unpack. -/
theorem part14 (c : Dev nD) (Q : _ → sProp (MT nD τ sig Unit (Elt F) ℕ UU ℕ)) :
    Q ⟨k0_pay36 (g0 m c) 4#32 (g1 m c) (g2 m c) 1#32 0#1, u1V m c, k0_pay38 (g0 m c) 4#32 (g1 m c) (g2 m c) 1#32 0#1, k0_pay39 (wMp c)⟩
      ⊢ wp frame (wpE (defs₀ (F := F)) 𝒱₀ (c : Thread nD τ) none) Set.univ (P14 F (wMp c) (g0 m c) 4#32 (g1 m c) (g2 m c) 1#32 0#1) Q := by
  simp only [P14, k0_part14_eq_skeleton]; unfold k0_part14_skel
  simp only [semSignalWord, semWaitWord, Prog.lift, Prog.bind_op, Prog.bind_ret, Prog.pure_eq_ret]
  iintro Hk
  rw [wp_ret]; imodintro
  unfold u1V; iexact Hk
theorem part15 (c : Dev nD) (Q : _ → sProp (MT nD τ sig Unit (Elt F) ℕ UU ℕ)) :
    Q ⟨u2V m c, k0_pay41 (F := F) (wMp c) (k0_pay36 (g0 m c) 4#32 (g1 m c) (g2 m c) 1#32 0#1)⟩
      ⊢ wp frame (wpE (defs₀ (F := F)) 𝒱₀ (c : Thread nD τ) none) Set.univ
          (P15 F (wMp c) (k0_pay36 (g0 m c) 4#32 (g1 m c) (g2 m c) 1#32 0#1) (k0_pay38 (g0 m c) 4#32 (g1 m c) (g2 m c) 1#32 0#1) (k0_pay39 (wMp c))) Q := by
  simp only [P15, k0_part15_eq_skeleton]; unfold k0_part15_skel
  simp only [semSignalWord, semWaitWord, Prog.lift, Prog.bind_op, Prog.bind_ret, Prog.pure_eq_ret]
  iintro Hk
  rw [wp_ret]; imodintro
  unfold u2V; iexact Hk

/-- Part 16: the first peer's rows have come and are put in; the second's have come. -/
theorem part16 (c : Dev nD) (v338 v414 : BitVec 32) (Q : _ → sProp (MT nD τ sig Unit (Elt F) ℕ UU ℕ)) :
    iprop(rec m K ∗ levAts L lv ∗ owe c 0 ∗ crd (c, 7) NB ∗ at0 (c, 7) ∗ crd (c, 6) NB ∗ at0 (c, 6) ∗ own c cc0_stg5_0 (o0V m c)
        ∗ ((owe c 0 ∗ zer (c, 7) ∗ hold rbS2 c (rbV m c) ∗ zer (c, 6) ∗ hold rbS1 c (rbV m c) ∗ own c cc0_stg5_0 (o1V m c))
            -∗ Q ⟨u3V m c, k0_pay44 (o1V m c)⟩))
      ⊢ wp frame (wpE (defs₀ (F := F)) 𝒱₀ (c : Thread nD τ) none) Set.univ
          (P16 F v338 v414 (u1V m c) (k0_pay41 (F := F) (wMp c) (k0_pay36 (g0 m c) 4#32 (g1 m c) (g2 m c) 1#32 0#1))) Q := by
  simp only [P16, k0_part16_eq_skeleton]; unfold k0_part16_skel
  simp only [semSignalWord, semWaitWord, Prog.lift, Prog.bind_op, Prog.bind_ret, Prog.pure_eq_ret]
  iintro ⟨#HR, #HL, HO, Hc7, Hat7, Hc6, Hat6, Ho, Hk⟩
  iapply (step_wait m K c Q _ 7 _ _ (wpE_waitDma2_eq 𝒱₀ (c : Thread nD τ) none Set.univ) (by rw [expect_k m c 7 rfl]; rfl) 0 (free c 7)) $$ [Hc7 HO Hat7]
  · isplitr; · iexact HR
    isplitr; · iexact HL
    isplitl [Hc7]; · iexact Hc7
    isplitl [HO]; · iexact HO
    iexact Hat7
  iintro ⟨HO, Hz7, Hpay⟩
  ihave Hpay := (Entails.of_eq (got7 m c)) $$ Hpay
  ihave Hb2 := (Entails.of_eq (hold_rb2 c (rbV m c))) $$ Hpay
  iapply (wp_load 𝒱₀ (c : Thread nD τ) none Set.univ (m := oM) (Finset.subset_univ _)) $$ Ho; iintro Ho
  iapply (wp_load 𝒱₀ (c : Thread nD τ) none Set.univ (m := rbM) load_rbS2) $$ Hb2; iintro Hb2
  iapply (wp_load 𝒱₀ (c : Thread nD τ) none Set.univ (m := oM) (Finset.subset_univ _)) $$ Ho; iintro Ho
  iapply (wp_store 𝒱₀ (c : Thread nD τ) none Set.univ (m := oM) (r := Rect.unit (s := S128x1024) ![0, 0] S128x1024.size inb_S128x1024_S128x1024_0_0) (Mk := Finset.univ) (Finset.subset_univ _)) $$ Ho; iintro Ho
  rw [put_o, all_o, read_q2]
  iapply (step_wait m K c Q _ 6 _ _ (wpE_waitDma2_eq 𝒱₀ (c : Thread nD τ) none Set.univ) (by rw [expect_k m c 6 rfl]; rfl) 0 (free c 6)) $$ [Hc6 HO Hat6]
  · isplitr; · iexact HR
    isplitr; · iexact HL
    isplitl [Hc6]; · iexact Hc6
    isplitl [HO]; · iexact HO
    iexact Hat6
  iintro ⟨HO, Hz6, Hpay⟩
  ihave Hpay := (Entails.of_eq (got6 m c)) $$ Hpay
  iapply (wp_load 𝒱₀ (c : Thread nD τ) none Set.univ (m := oM) (Finset.subset_univ _)) $$ Ho; iintro Ho
  rw [all_o, wp_ret]; imodintro
  unfold o1V u3V
  iapply Hk
  isplitl [HO]; · iexact HO
  isplitl [Hz7]; · iexact Hz7
  isplitl [Hb2]; · iapply (Entails.of_eq (hold_rb2 c (rbV m c)).symm); iexact Hb2
  isplitl [Hz6]; · iexact Hz6
  isplitl [Hpay]; · iexact Hpay
  iexact Ho

/-- Part 17: the second's are put in; the third's have come and are put in; the own copy to the other plane is done. -/
theorem part17 (c : Dev nD) (v490 : BitVec 32) (Q : _ → sProp (MT nD τ sig Unit (Elt F) ℕ UU ℕ)) :
    iprop(rec m K ∗ levAts L lv ∗ owe c 0 ∗ crd (c, 5) NB ∗ at0 (c, 5) ∗ crd (c, 4) NA ∗ at0 (c, 4) ∗ own c cc0_stg5_0 (o1V m c) ∗ hold rbS1 c (rbV m c)
        ∗ ((owe c 0 ∗ zer (c, 5) ∗ hold rbS0 c (rbV m c) ∗ zer (c, 4) ∗ own c cc0_scratch3 (saV m c) ∗ own c cc0_stg5_0 (outV m c) ∗ hold rbS1 c (rbV m c))
            -∗ Q ⟨⟩))
      ⊢ wp frame (wpE (defs₀ (F := F)) 𝒱₀ (c : Thread nD τ) none) Set.univ (P17 F v490 (u2V m c) (u3V m c) (k0_pay44 (o1V m c))) Q := by
  simp only [P17, k0_part17_eq_skeleton]; unfold k0_part17_skel
  simp only [semSignalWord, semWaitWord, Prog.lift, Prog.bind_op, Prog.bind_ret, Prog.pure_eq_ret]
  iintro ⟨#HR, #HL, HO, Hc5, Hat5, Hc4, Hat4, Ho, Hb1, Hk⟩
  ihave Hb1 := (Entails.of_eq (hold_rb1 c (rbV m c))) $$ Hb1
  iapply (wp_load 𝒱₀ (c : Thread nD τ) none Set.univ (m := rbM) load_rbS1) $$ Hb1; iintro Hb1
  iapply (wp_load 𝒱₀ (c : Thread nD τ) none Set.univ (m := oM) (Finset.subset_univ _)) $$ Ho; iintro Ho
  iapply (wp_store 𝒱₀ (c : Thread nD τ) none Set.univ (m := oM) (r := Rect.unit (s := S128x1024) ![0, 0] S128x1024.size inb_S128x1024_S128x1024_0_0) (Mk := Finset.univ) (Finset.subset_univ _)) $$ Ho; iintro Ho
  rw [put_o, read_q1]
  iapply (step_wait m K c Q _ 5 _ _ (wpE_waitDma2_eq 𝒱₀ (c : Thread nD τ) none Set.univ) (by rw [expect_k m c 5 rfl]; rfl) 0 (free c 5)) $$ [Hc5 HO Hat5]
  · isplitr; · iexact HR
    isplitr; · iexact HL
    isplitl [Hc5]; · iexact Hc5
    isplitl [HO]; · iexact HO
    iexact Hat5
  iintro ⟨HO, Hz5, Hpay⟩
  ihave Hpay := (Entails.of_eq (got5 m c)) $$ Hpay
  ihave Hb0 := (Entails.of_eq (hold_rb0 c (rbV m c))) $$ Hpay
  iapply (wp_load 𝒱₀ (c : Thread nD τ) none Set.univ (m := oM) (Finset.subset_univ _)) $$ Ho; iintro Ho
  iapply (wp_load 𝒱₀ (c : Thread nD τ) none Set.univ (m := rbM) load_rbS0) $$ Hb0; iintro Hb0
  iapply (wp_load 𝒱₀ (c : Thread nD τ) none Set.univ (m := oM) (Finset.subset_univ _)) $$ Ho; iintro Ho
  iapply (wp_store 𝒱₀ (c : Thread nD τ) none Set.univ (m := oM) (r := Rect.unit (s := S128x1024) ![0, 0] S128x1024.size inb_S128x1024_S128x1024_0_0) (Mk := Finset.univ) (Finset.subset_univ _)) $$ Ho; iintro Ho
  rw [put_o, all_o, read_q0]
  iapply (step_wait m K c Q _ 4 _ _ (wpE_waitDma2_eq 𝒱₀ (c : Thread nD τ) none Set.univ) (by rw [expect_k m c 4 rfl]; rfl) 0 (free c 4)) $$ [Hc4 HO Hat4]
  · isplitr; · iexact HR
    isplitr; · iexact HL
    isplitl [Hc4]; · iexact Hc4
    isplitl [HO]; · iexact HO
    iexact Hat4
  iintro ⟨HO, Hz4, Hpay⟩
  ihave Hpay := (Entails.of_eq (got4 m c)) $$ Hpay
  ihave Hpay := (Entails.of_eq (own_sa c (saV m c)).symm) $$ Hpay
  rw [wp_ret]; imodintro
  unfold outV o2V
  iapply Hk
  isplitl [HO]; · iexact HO
  isplitl [Hz5]; · iexact Hz5
  isplitl [Hb0]; · iapply (Entails.of_eq (hold_rb0 c (rbV m c)).symm); iexact Hb0
  isplitl [Hz4]; · iexact Hz4
  isplitl [Hpay]; · iexact Hpay
  isplitl [Ho]; · iexact Ho
  iapply (Entails.of_eq (hold_rb1 c (rbV m c)).symm); iexact Hb1

end Cert.MoE

end
-- ==== Proof.Body.lean ====
/-
The kernel's body, on device `c`: its parts one after the other.
-/
module

public import proofs.«01_k».proof.Proof.Parts

@[expose] public section

noncomputable section

namespace Cert.MoE

open Cert.KernelIdeal Cert.KernelIdeal.Gen

open Idealize.ShloMosaic
open Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × Fin 9 → ℕ)

/-! ## Part 1: where device `c` stands -/

theorem word_me (c : Dev nD) : Scalar.remsi (Scalar.divsi (Dev.word c) 1#32) 8#32 = wMe c := by revert c; decide
theorem word_pt (c : Dev nD) : Scalar.remsi (Scalar.addi (wMe c) 4#32) 8#32 = wPt c := by revert c; decide
theorem word_mp (c : Dev nD) : Scalar.remsi (wMe c) 4#32 = wMp c := by revert c; decide
theorem word_plane (c : Dev nD) :
    Scalar.select (Scalar.andi (Scalar.cmpi .ne (Scalar.subi (Scalar.extui (Scalar.cmpi .sgt (wMe c) 0#32)) (Scalar.extui (Scalar.cmpi .slt (wMe c) 0#32)))
        (Scalar.subi (Scalar.extui (Scalar.cmpi .sgt 4#32 0#32)) (Scalar.extui (Scalar.cmpi .slt 4#32 0#32)))) (Scalar.cmpi .ne (wMp c) 0#32))
      (Scalar.subi (Scalar.divsi (wMe c) 4#32) 1#32) (Scalar.divsi (wMe c) 4#32) = wPlane c := by revert c; decide
theorem word_mine (c : Dev nD) : Scalar.muli (wPlane c) 512#32 = wMine c := by revert c; decide
theorem word_other (c : Dev nD) : Scalar.muli (Scalar.subi 1#32 (wPlane c)) 512#32 = wOther c := by revert c; decide

theorem part1 (c : Dev nD) (Q : _ → sProp (MT nD τ sig Unit (Elt F) ℕ UU ℕ)) :
    Q ⟨c, wMe c, wPt c, wPlane c, wMine c, wOther c, wMp c, SemArray.scalar (sig.barrier 0 rfl),
        Scalar.addi (Scalar.muli (wPlane c) 4#32) (Scalar.remsi (Scalar.addi (wMp c) 1#32) 4#32),
        Scalar.addi (Scalar.muli (wPlane c) 4#32) (Scalar.remsi (Scalar.addi (wMp c) 2#32) 4#32), Scalar.muli (wPlane c) 4#32, 3#32⟩
      ⊢ wp frame (wpE (defs₀ (F := F)) 𝒱₀ (c : Thread nD τ) none) Set.univ (P1 F) Q := by
  simp only [P1, k0_part1_eq_skeleton]; unfold k0_part1_skel
  simp only [Prog.lift, Prog.bind_op, Prog.bind_ret, Prog.pure_eq_ret, wp_deviceId]
  simp only [word_me, word_pt, word_mp, word_plane, word_mine, word_other]
  iintro Hk
  rw [wp_ret]; imodintro
  iexact Hk

/-! ## What device `c` starts from and ends with -/

/-- Its positions, and the tokens of the payments it makes. -/
def linear (c : Dev nD) : sProp 𝕄 :=
  iprop((at0 (c, 0) ∗ at0 (c, 1) ∗ at0 (c, 2) ∗ at0 (c, 3) ∗ at0 (c, 4) ∗ at0 (c, 5) ∗ at0 (c, 6) ∗ at0 (c, 7) ∗ at0 (c, 8))
    ∗ tok (pt c, 0) 0 ∗ tok (pl1 c, 0) 1 ∗ tok (pl2 c, 0) 2 ∗ tok (pl3 c, 0) 3 ∗ tok (pt c, 8) 0 ∗ tok (pl1 c, 7) 0 ∗ tok (pl2 c, 6) 0 ∗ tok (pl3 c, 5) 0 ∗ tok (c, 1) 0 ∗ tok (c, 2) 0 ∗ tok (c, 3) 0 ∗ tok (c, 4) 0)
/-- The credit for the payments its peers make. -/
def credits (c : Dev nD) : sProp 𝕄 := iprop(crd (c, 0) 4 ∗ crd (c, 8) NA ∗ crd (c, 7) NB ∗ crd (c, 6) NB ∗ crd (c, 5) NB)
/-- Its scratch buffers, at some contents. -/
def scratch (c : Dev nD) : sProp 𝕄 :=
  iprop((∃ f, own c cc0_scratch0 f) ∗ (∃ f, own c cc0_scratch1 f) ∗ (∃ f, own c cc0_scratch2 f) ∗ (∃ f, own c cc0_scratch3 f) ∗ (∃ f, own c cc0_scratch4 f)
    ∗ (∃ f, own c cc0_scratch5 f) ∗ (∃ f, own c cc0_scratch6 f))
/-- Its cells, ended. -/
def ended (c : Dev nD) : sProp 𝕄 :=
  iprop(zer (c, 0) ∗ zer (c, 1) ∗ zer (c, 2) ∗ zer (c, 3) ∗ zer (c, 4) ∗ zer (c, 5) ∗ zer (c, 6) ∗ zer (c, 7) ∗ zer (c, 8))
/-- The inputs' staging buffers. -/
def inputs (c : Dev nD) : sProp 𝕄 :=
  iprop(own c cc0_stg0_0 (xV m c) ∗ own c cc0_stg1_0 (rwV m c) ∗ own c cc0_stg2_0 (ixV m c) ∗ own c cc0_stg3_0 (weV m c) ∗ own c cc0_stg4_0 (wsV m c))

abbrev prog : Prog (TpuEff nD τ sig (Elt F) Λ₀ .tc) PUnit := cc0_body (F := F) aM (Memref.isWhole_whole _) rM (Memref.isWhole_whole _) iM (Memref.isWhole_whole _) eM (Memref.isWhole_whole _) hM (Memref.isWhole_whole _) oM (Memref.isWhole_whole _) xbM (Memref.isWhole_whole _) cbM (Memref.isWhole_whole _) acM (Memref.isWhole_whole _) saM (Memref.isWhole_whole _) raM (Memref.isWhole_whole _) sbM (Memref.isWhole_whole _) rbM (Memref.isWhole_whole _) cc0_scratch7 cc0_scratch8

omit [FloatOps F] in
theorem split_sb' (c : Dev nD) : iprop(∃ f, own c cc0_scratch5 f) ⊢ (iprop((∃ f, hold sbS0 c f) ∗ (∃ f, hold sbS1 c f) ∗ (∃ f, hold sbS2 c f)) : sProp 𝕄) := by
  iintro ⟨%f, H⟩
  ihave H := (Entails.of_eq (split_sb c f)) $$ H
  icases H with ⟨H0, H1, H2⟩
  isplitl [H0]; · iexists f; iexact H0
  isplitl [H1]; · iexists f; iexact H1
  iexists f; iexact H2
omit [FloatOps F] in
theorem split_rb' (c : Dev nD) : iprop(∃ f, own c cc0_scratch6 f) ⊢ (iprop((∃ f, hold rbS0 c f) ∗ (∃ f, hold rbS1 c f) ∗ (∃ f, hold rbS2 c f)) : sProp 𝕄) := by
  iintro ⟨%f, H⟩
  ihave H := (Entails.of_eq (split_rb c f)) $$ H
  icases H with ⟨H0, H1, H2⟩
  isplitl [H0]; · iexists f; iexact H0
  isplitl [H1]; · iexists f; iexact H1
  iexists f; iexact H2

set_option maxHeartbeats 1000000 in
/-- The body, from what it starts with to what it ends with. -/
theorem body_run (c : Dev nD) (Q : _ → sProp (MT nD τ sig Unit (Elt F) ℕ UU ℕ)) :
    iprop(rec m K ∗ levAts L lv ∗ owe c (O₀ c) ∗ linear c ∗ credits c ∗ scratch c ∗ inputs m c ∗ (∃ f, own c cc0_stg5_0 f)
        ∗ ((owe c 0 ∗ ended c ∗ scratch c ∗ inputs m c ∗ own c cc0_stg5_0 (outV m c)) -∗ Q ⟨⟩))
      ⊢ wp frame (wpE (defs₀ (F := F)) 𝒱₀ (c : Thread nD τ) none) Set.univ (prog (F := F)) Q := by
  simp only [prog, cc0_body_eq_skeleton]; unfold cc0_body_skel linear credits scratch ended inputs
  iintro ⟨#HR, #HL, HO, ⟨⟨Ha0, Ha1, Ha2, Ha3, Ha4, Ha5, Ha6, Ha7, Ha8⟩, Tb0, Tb1, Tb2, Tb3, Tr8, Tr7, Tr6, Tr5, Ts1, Ts2, Ts3, Ts4⟩,
    ⟨C0, C8, C7, C6, C5⟩, ⟨S0, S1, S2, S3, S4, S5, S6⟩, ⟨Hx, Hr, Hi, He, Hh⟩, Hout, Hk⟩
  icases S4 with ⟨%f4, S4⟩
  ihave S4 := (Entails.of_eq (own_ra c f4)) $$ S4
  ihave S5 := (split_sb' c) $$ S5
  icases S5 with ⟨B0, B1, B2⟩
  ihave S6 := (split_rb' c) $$ S6
  icases S6 with ⟨R0, R1, R2⟩
  rw [wp_bind]
  iapply (part1 c)
  try dsimp only
  rw [wp_bind]
  iapply (part2 m K c _ _ _ _ _ _ _)
  isplitr; · iexact HR
  isplitl [HO]; · iexact HO
  isplitl [Tb0]; · iexact Tb0
  isplitl [Tb1]; · iexact Tb1
  isplitl [Tb2]; · iexact Tb2
  isplitl [Tb3]; · iexact Tb3
  isplitl [S4]; · iexists f4; iexact S4
  isplitl [R0]; · iexact R0
  isplitl [R1]; · iexact R1
  isplitl [R2]; · iexact R2
  isplitl [Hx]; · iexact Hx
  isplitl [Hr]; · iexact Hr
  isplitl [Hi]; · iexact Hi
  iintro ⟨HO, Hx, Hr, Hi⟩
  try dsimp only
  rw [wp_bind]
  iapply (part3 m K c _ _)
  isplitr; · iexact HR
  isplitr; · iexact HL
  isplitl [HO]; · iexact HO
  isplitl [C0]; · iexact C0
  isplitl [Ha0]; · iexact Ha0
  isplitl [S0]; · iexact S0
  isplitl [S1]; · iexact S1
  isplitl [He]; · iexact He
  isplitl [Hi]; · iexact Hi
  iintro ⟨HO, Z0, ⟨D4, D0, D1, D2⟩, S0, S1, He, Hi⟩
  try dsimp only
  rw [wp_bind]
  iapply (part4 m c _ _)
  isplitl [S0]; · iexact S0
  isplitl [S1]; · iexact S1
  iintro ⟨S0, S1⟩
  try dsimp only
  rw [wp_bind]
  iapply (part5 m K c _ _ _)
  isplitr; · iexact HR
  isplitl [HO]; · iexact HO
  isplitl [S3]; · iexact S3
  isplitl [D4]; · iexact D4
  isplitl [Ts4]; · iexact Ts4
  isplitl [Tr8]; · iexact Tr8
  isplitl [Hi]; · iexact Hi
  iintro ⟨C4, HO, Hi⟩
  try dsimp only
  rw [wp_bind]
  iapply (part6 m K c _ _)
  isplitr; · iexact HR
  isplitr; · iexact HL
  isplitl [HO]; · iexact HO
  isplitl [C8]; · iexact C8
  isplitl [Ha8]; · iexact Ha8
  isplitl [S0]; · iexact S0
  isplitl [S1]; · iexact S1
  isplitl [S2]; · iexact S2
  iintro ⟨HO, Z8, S4, S0, S1, S2⟩
  try dsimp only
  rw [wp_bind]
  iapply (part7 m c _ _ _)
  isplitl [S2]; · iexact S2
  isplitl [S4]; · iexact S4
  isplitl [Hi]; · iexact Hi
  iintro ⟨S2, S4, Hi⟩
  try dsimp only
  rw [wp_bind]
  iapply (part8 m c _ _)
  isplitl [S2]; · iexact S2
  iintro S2
  try dsimp only
  rw [wp_bind]
  iapply (part9 m K c _ _ _ _ _)
  isplitr; · iexact HR
  isplitl [HO]; · iexact HO
  isplitl [B0]; · iexact B0
  isplitl [D2]; · iexact D2
  isplitl [Ts1]; · iexact Ts1
  isplitl [Tr7]; · iexact Tr7
  isplitl [Hi]; · iexact Hi
  iintro ⟨C1, HO, Hi⟩
  try dsimp only
  rw [wp_bind]
  iapply (part10 m c _ _)
  isplitl [S2]; · iexact S2
  isplitl [B1]; · iexact B1
  iintro ⟨S2, B1⟩
  try dsimp only
  rw [wp_bind]
  iapply (part11 m K c _ _ _ _ _ _)
  isplitr; · iexact HR
  isplitl [HO]; · iexact HO
  isplitl [B1]; · iexact B1
  isplitl [D1]; · iexact D1
  isplitl [Ts2]; · iexact Ts2
  isplitl [Tr6]; · iexact Tr6
  isplitl [Hi]; · iexact Hi
  iintro ⟨C2, HO, Hi⟩
  try dsimp only
  rw [wp_bind]
  iapply (part12 m c _ _ _)
  isplitl [S2]; · iexact S2
  isplitl [B2]; · iexact B2
  iintro ⟨S2, B2⟩
  try dsimp only
  rw [wp_bind]
  iapply (part13 m K c _ _ _ _ _)
  isplitr; · iexact HR
  isplitl [HO]; · iexact HO
  isplitl [B2]; · iexact B2
  isplitl [D0]; · iexact D0
  isplitl [Ts3]; · iexact Ts3
  isplitl [Tr5]; · iexact Tr5
  isplitl [Hx]; · iexact Hx
  isplitl [Hh]; · iexact Hh
  isplitl [S2]; · iexact S2
  isplitl [Hout]; · iexact Hout
  isplitl [Hi]; · iexact Hi
  iintro ⟨C3, HO, Hx, Hh, S2, Hout, Hi⟩
  try dsimp only
  rw [wp_bind]
  iapply (part14 m c)
  try dsimp only
  rw [wp_bind]
  iapply (part15 m c)
  try dsimp only
  rw [wp_bind]
  iapply (part16 m K c _ _ _)
  isplitr; · iexact HR
  isplitr; · iexact HL
  isplitl [HO]; · iexact HO
  isplitl [C7]; · iexact C7
  isplitl [Ha7]; · iexact Ha7
  isplitl [C6]; · iexact C6
  isplitl [Ha6]; · iexact Ha6
  isplitl [Hout]; · iexact Hout
  iintro ⟨HO, Z7, R2, Z6, R1, Hout⟩
  try dsimp only
  rw [wp_bind]
  iapply (part17 m K c _ _)
  isplitr; · iexact HR
  isplitr; · iexact HL
  isplitl [HO]; · iexact HO
  isplitl [C5]; · iexact C5
  isplitl [Ha5]; · iexact Ha5
  isplitl [C4]; · iexact C4
  isplitl [Ha4]; · iexact Ha4
  isplitl [Hout]; · iexact Hout
  isplitl [R1]; · iexact R1
  iintro ⟨HO, Z5, R0, Z4, S3, Hout, R1⟩
  try dsimp only
  simp only [Prog.lift, Prog.bind_op, Prog.bind_ret, Prog.pure_eq_ret]
  iapply (step_wait m K c Q _ 1 _ _ (wpE_waitDma2_eq 𝒱₀ (c : Thread nD τ) none Set.univ) (by rw [expect_k m c 1 rfl]; rfl) 0 (free c 1)) $$ [C1 HO Ha1]
  · isplitr; · iexact HR
    isplitr; · iexact HL
    isplitl [C1]; · iexact C1
    isplitl [HO]; · iexact HO
    iexact Ha1
  iintro ⟨HO, Z1, Hpay⟩
  ihave B0 := (Entails.of_eq (got1 m c)) $$ Hpay
  iapply (step_wait m K c Q _ 2 _ _ (wpE_waitDma2_eq 𝒱₀ (c : Thread nD τ) none Set.univ) (by rw [expect_k m c 2 rfl]; rfl) 0 (free c 2)) $$ [C2 HO Ha2]
  · isplitr; · iexact HR
    isplitr; · iexact HL
    isplitl [C2]; · iexact C2
    isplitl [HO]; · iexact HO
    iexact Ha2
  iintro ⟨HO, Z2, Hpay⟩
  ihave B1 := (Entails.of_eq (got2 m c)) $$ Hpay
  iapply (step_wait m K c Q _ 3 _ _ (wpE_waitDma2_eq 𝒱₀ (c : Thread nD τ) none Set.univ) (by rw [expect_k m c 3 rfl]; rfl) 0 (free c 3)) $$ [C3 HO Ha3]
  · isplitr; · iexact HR
    isplitr; · iexact HL
    isplitl [C3]; · iexact C3
    isplitl [HO]; · iexact HO
    iexact Ha3
  iintro ⟨HO, Z3, Hpay⟩
  ihave B2 := (Entails.of_eq (got3 m c)) $$ Hpay
  ihave S5 := (Entails.of_eq (split_sb c (sbV m c)).symm) $$ [B0 B1 B2]
  · isplitl [B0]; · iexact B0
    isplitl [B1] <;> iassumption
  ihave S6 := (Entails.of_eq (split_rb c (rbV m c)).symm) $$ [R0 R1 R2]
  · isplitl [R0]; · iexact R0
    isplitl [R1] <;> iassumption
  rw [wp_ret]; imodintro
  iapply Hk
  isplitl [HO]; · iexact HO
  isplitl [Z0 Z1 Z2 Z3 Z4 Z5 Z6 Z7 Z8]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7] <;> iassumption
  isplitl [S0 S1 S2 S3 S4 S5 S6]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  isplitl [Hx Hr Hi He Hh]
  · isplitl [Hx]; · iexact Hx
    isplitl [Hr]; · iexact Hr
    isplitl [Hi]; · iexact Hi
    isplitl [He] <;> iassumption
  iexact Hout

end Cert.MoE

end
-- ==== Proof.Run.lean ====
/-
The launch: what every device starts with is made and dealt out, and the body runs on each of them.
-/
module

public import proofs.«01_k».proof.Proof.Body
public import proofs.«01_k».proof.Proof.Gen.KernelIdeal.Launch
public import proofs.«01_k».proof.Proof.Gen.KernelIdeal.Points
public import Idealize.ShloMosaic.Lib.Pipeline.CollectiveSegs

@[expose] public section

noncomputable section

namespace Cert.MoE

open Cert.KernelIdeal Cert.KernelIdeal.Gen

open Idealize.ShloMosaic
open Idealize.ShloMosaic.TcCoe Idealize.ShloMosaic.Rounds
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

abbrev s₀ : MemSt nD τ sig (Elt F) := ⟨m, fun _ => 0, ρ⟩

/-! ## The pipeline's data -/

/-- What the launch leaves device `c`: the records at some names, with its own share. -/
def G' (c : Dev nD) : sProp 𝕄 := iprop((∃ K, rec m K) ∗ linear c)
/-- What a device starts its kernel with. -/
def start (c : Dev nD) : sProp 𝕄 := iprop(G' m c ∗ credits c ∗ levAts L lv)
/-- The invariant before the point -/
def Φ₀ (c : Dev nD) : sProp 𝕄 := iprop(start m c ∗ scratch c)
/-- and after it. -/
def Φ₁ (c : Dev nD) : sProp 𝕄 := iprop(scratch c ∗ ended c)

/-- The kernel's one pipeline on device `c`: the inputs' blocks stay, the output block ends as `outV`. -/
def dats (_ : Fin 1) (c : Dev nD) : Dat τ (Elt F) Unit ℕ UU ℕ cfg0 c where
  A w := m ((cfg0.win w).arr.view.loc (c : Thread nD τ))
  after w _ := match w with
    | ⟨0, _⟩ => xV m c
    | ⟨1, _⟩ => rwV m c
    | ⟨2, _⟩ => ixV m c
    | ⟨3, _⟩ => weV m c
    | ⟨4, _⟩ => wsV m c
    | ⟨5, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_own (c : Dev nD) (b : Ref sig .tc) (X : b.ty.Contents (Elt F)) :
    (owns (Ix := Unit) (Name := ℕ) (U := UU) (Lvl := ℕ) (c : Thread nD τ) (Memref.whole b) fullShare X : sProp 𝕄) = own c b X :=
  owns_whole (c : Thread nD τ) b fullShare X

/-- What the body finds at its one point, spelled out, -/
def found (c : Dev nD) : sProp 𝕄 :=
  iprop(Φ₀ m c ∗ (dats m 0 c).owesAt () t0_0.castSucc
    ∗ (∃ d, own c cc0_stg0_0 ((dats m 0 c).before (0 : Fin 6) t0_0 d)) ∗ (∃ d, own c cc0_stg1_0 ((dats m 0 c).before (1 : Fin 6) t0_0 d)) ∗ (∃ d, own c cc0_stg2_0 ((dats m 0 c).before (2 : Fin 6) t0_0 d)) ∗ (∃ d, own c cc0_stg3_0 ((dats m 0 c).before (3 : Fin 6) t0_0 d)) ∗ (∃ d, own c cc0_stg4_0 ((dats m 0 c).before (4 : Fin 6) t0_0 d)) ∗ (∃ d, own c cc0_stg5_0 ((dats m 0 c).before (5 : Fin 6) t0_0 d)))
/-- and what it leaves. -/
def left (c : Dev nD) : sProp 𝕄 :=
  iprop(Φ₁ c ∗ (dats m 0 c).owesAt () t0_0.succ
    ∗ own c cc0_stg0_0 (xV m c) ∗ own c cc0_stg1_0 (rwV m c) ∗ own c cc0_stg2_0 (ixV m c) ∗ own c cc0_stg3_0 (weV m c) ∗ own c cc0_stg4_0 (wsV m c) ∗ own c cc0_stg5_0 (outV m c))

theorem before_0 (c : Dev nD) (d) : (dats m 0 c).before (0 : Fin 6) t0_0 d = xV m c := by
  unfold Dat.before; rw [if_pos (fetch0_0 t0_0)]; rfl
theorem before_1 (c : Dev nD) (d) : (dats m 0 c).before (1 : Fin 6) t0_0 d = rwV m c := by
  unfold Dat.before; rw [if_pos (fetch0_1 t0_0)]; rfl
theorem before_2 (c : Dev nD) (d) : (dats m 0 c).before (2 : Fin 6) t0_0 d = ixV m c := by
  unfold Dat.before; rw [if_pos (fetch0_2 t0_0)]; rfl
theorem before_3 (c : Dev nD) (d) : (dats m 0 c).before (3 : Fin 6) t0_0 d = weV m c := by
  unfold Dat.before; rw [if_pos (fetch0_3 t0_0)]; rfl
theorem before_4 (c : Dev nD) (d) : (dats m 0 c).before (4 : Fin 6) t0_0 d = wsV m c := by
  unfold Dat.before; rw [if_pos (fetch0_4 t0_0)]; rfl

theorem found_left (c : Dev nD) : found m c ⊢ wp frame (wpE (defs₀ (F := F)) 𝒱₀ (c : Thread nD τ) none) Set.univ (prog (F := F)) (fun _ => left m c) := by
  unfold found left Φ₀ Φ₁ start G' Dat.owesAt Pipeline.owesWithin
  rw [show (dats m 0 c).owed t0_0.castSucc = O₀ c from rfl, show (dats m 0 c).owed t0_0.succ = 0 from rfl]
  simp only [before_0, before_1, before_2, before_3, before_4]
  iintro ⟨⟨⟨⟨⟨%K, HR⟩, Hlin⟩, Hcr, Hlev⟩, Hscr⟩, ⟨%W, %hW, HO⟩, ⟨%d0, H0⟩, ⟨%d1, H1⟩, ⟨%d2, H2⟩, ⟨%d3, H3⟩, ⟨%d4, H4⟩, ⟨%d5, H5⟩⟩
  iapply (body_run m K c _)
  isplitl [HR]; · iexact HR
  isplitl [Hlev]; · iexact Hlev
  isplitl [HO]; · unfold owe; iexists W; iexact HO
  isplitl [Hlin]; · iexact Hlin
  isplitl [Hcr]; · iexact Hcr
  isplitl [Hscr]; · iexact Hscr
  isplitl [H0 H1 H2 H3 H4]
  · unfold inputs
    isplitl [H0]; · iexact H0
    isplitl [H1]; · iexact H1
    isplitl [H2]; · iexact H2
    isplitl [H3] <;> iassumption
  isplitl [H5]; · iexists _; iexact H5
  unfold owe inputs
  iintro ⟨⟨%W', HO⟩, Hz, Hscr, ⟨H0, H1, H2, H3, H4⟩, H5⟩
  isplitl [Hscr Hz]
  · isplitl [Hscr] <;> iassumption
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4] <;> iassumption

set_option maxRecDepth 4000 in
/-- The body does at its point what the pipeline asks of it. -/
theorem body_obligation (c : Dev nD) : BodyObligation (dats (F := F) m 0 c) (defs₀ (F := F)) 𝒱₀ () Set.univ := fun t => by
  rw [fin_N0 t, bigSep_W0, bigSep_W0]
  simp only [owns_own]
  exact found_left m c

/-! ## What the launch makes -/

/-- The kernel's own counters are the pipeline's to give. -/
theorem own_sems : Pipeline.OwnSemFacts cfg0.spec osem := by decide

/-- Every window is held whole. -/
theorem share_full (c : Dev nD) (w : Fin cfg0.W) : (dats m 0 c).share w = fullShare := by unfold Dat.share; split <;> rfl

theorem csem_inj : Function.Injective csem := by
  intro j k h
  have := congrArg cix h
  rwa [cix_csem, cix_csem, Option.some.injEq] at this
theorem kcell_inj : Function.Injective (kcell : Dev nD × Fin 9 → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- The tokens of a device's own cells, in a row: the barrier's four, then one for each other cell. -/
def tokIx : Fin 12 → Fin 9 × Fin 4
  | 0 => (0, 0) | 1 => (0, 1) | 2 => (0, 2) | 3 => (0, 3)
  | 4 => (1, 0) | 5 => (2, 0) | 6 => (3, 0) | 7 => (4, 0) | 8 => (5, 0) | 9 => (6, 0) | 10 => (7, 0) | 11 => (8, 0)
theorem tokIx_inj : Function.Injective tokIx := by decide
def tokCell (cj : Dev nD × Fin 12) : GSem nD τ sig × ℕ × Fin 4 := (kcell (cj.1, (tokIx cj.2).1), 0, (tokIx cj.2).2)
theorem tokCell_inj : Function.Injective tokCell := by
  rintro ⟨c, j⟩ ⟨c', j'⟩ h
  have h1 : (c, (tokIx j).1) = (c', (tokIx j').1) := kcell_inj (congrArg Prod.fst h)
  have h2 : (tokIx j).2 = (tokIx j').2 := congrArg (fun x : GSem nD τ sig × ℕ × Fin 4 => x.2.2) h
  rw [(Prod.mk.inj h1).1, tokIx_inj (Prod.ext (Prod.mk.inj h1).2 h2)]

def allCells : Finset (GSem nD τ sig) := Finset.univ.map ⟨kcell, kcell_inj⟩
def allToks : Finset (GSem nD τ sig × ℕ × Fin 4) := Finset.univ.map ⟨tokCell, tokCell_inj⟩

def u₀ : UU := (initOf (Pipeline.cells cfgs cellOf_inj) (Pipeline.launchToks cfgs cellOf_inj), initOf allCells allToks)

/-- The tokens of device `c`'s own cells. -/
def minted (c : Dev nD) : sProp 𝕄 :=
  iprop(tok (c, 0) 0 ∗ tok (c, 0) 1 ∗ tok (c, 0) 2 ∗ tok (c, 0) 3 ∗ tok (c, 1) 0 ∗ tok (c, 2) 0 ∗ tok (c, 3) 0 ∗ tok (c, 4) 0
    ∗ tok (c, 5) 0 ∗ tok (c, 6) 0 ∗ tok (c, 7) 0 ∗ tok (c, 8) 0)

def G (c : Dev nD) : sProp 𝕄 :=
  iprop((bigSep Finset.univ fun k : Fin 9 => roundState ER (sched m) (kcell (c, k)) 0)
    ∗ (bigSep Finset.univ fun k : Fin 9 => iprop(at0 (c, k) ∗ reached ER (kcell (c, k)) 0)) ∗ minted c)

omit [FloatOps F] in
theorem all9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
omit [FloatOps F] in
theorem all12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

omit [FloatOps F] in
theorem over_cells (Φ : GSem nD τ sig → sProp 𝕄) : bigSep allCells Φ = bigSep Finset.univ fun c : Dev nD => bigSep Finset.univ fun k : Fin 9 => Φ (kcell (c, k)) := by
  unfold allCells; rw [bigSep_map, bigSep_univ_prod]; rfl
omit [FloatOps F] in
theorem over_toks : bigSep allToks (fun x => (dutyTok (ER (F := F)) x.1 x.2.1 x.2.2 : sProp 𝕄)) = bigSep Finset.univ fun c : Dev nD => minted c := by
  unfold allToks; rw [bigSep_map, bigSep_univ_prod]
  exact bigSep_congr fun c _ => by unfold minted; rw [all12]; rfl

/-- The launch element funds every cell. -/
theorem fund_all : BI.own ((ER (F := F)) (initOf allCells allToks)) ⊢ (|==> bigSep Finset.univ (G m) : sProp 𝕄) := by
  iintro HX
  imod (Rounds.fund ER (sched m) allCells allToks) $$ HX with ⟨Hst, Hr, Hat, Htok⟩
  imodintro
  ihave Hst := (Entails.of_eq (over_cells fun g => roundState ER (sched m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G; simp only [bigSep_sep']
  isplitl [Hst]; · iexact Hst
  isplitl [Hat Hr]
  · isplitl [Hat] <;> iassumption
  iexact Htok

/-! ## The semaphores at zero become the cells -/

omit [FloatOps F] in
theorem own_sems_eq (c : Dev nD) : (Pipeline.ownSems0 (Ix := Unit) (Name := ℕ) (U := UU) (Lvl := ℕ) (Val := Elt F) (τ := τ) osem c : sProp 𝕄)
    = iprop(zer (c, 1) ∗ zer (c, 2) ∗ zer (c, 3) ∗ zer (c, 4) ∗ zer (c, 5) ∗ zer (c, 6) ∗ zer (c, 7) ∗ zer (c, 8)) := by
  rw [Pipeline.ownSems0_eq_of_list c osem [0, 1, 2, 3, 4, 5, 6, 7] (by decide) (by decide)]; rfl
omit [FloatOps F] in
theorem run_sems_eq (c : Dev nD) : (unscopedSems0 c : sProp 𝕄) = zer (c, 0) := by
  unfold unscopedSems0; rw [bigSep_eq_bigSepL_of_eq [SemLoc.reg barS] (by decide) (by decide)]; rfl

omit [FloatOps F] in
theorem zeros (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => zer (c, k) : sProp 𝕄) := by
  rw [own_sems_eq, run_sems_eq, all9]
  iintro ⟨H, H0⟩
  isplitl [H0] <;> iassumption

/-- The cells are made from the counters at zero. -/
theorem make_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(at0 (c, k) ∗ reached ER (kcell (c, k)) 0)) ∗ minted c) := by
  have alloc : iprop((bigSep Finset.univ fun k : Fin 9 => zer (c, k)) ∗ bigSep Finset.univ fun k : Fin 9 => roundState ER (sched m) (kcell (c, k)) 0)
      ⊢ (|={Set.univ}=> bigSep Finset.univ fun k => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  unfold G
  iintro ⟨Hos, Hus, Hst, Hat, Htok⟩
  ihave Hz := (zeros c) $$ [Hos Hus]
  · isplitl [Hos] <;> iassumption
  imod alloc $$ [Hz Hst] with Hinv
  · isplitl [Hz] <;> iassumption
  imodintro
  isplitl [Hinv]; · iexact Hinv
  isplitl [Hat] <;> iassumption

/-! ## The tokens go to the devices that pay -/

/-- A map of the devices with its inverse, as a bijection. -/
def turn (f g : Dev nD → Dev nD) (h1 : ∀ c, g (f c) = c) (h2 : ∀ c, f (g c) = c) : Dev nD ≃ Dev nD := ⟨f, g, h1, h2⟩

/-- The tokens of the payments device `c` makes. -/
def paying (c : Dev nD) : sProp 𝕄 :=
  iprop(tok (pt c, 0) 0 ∗ tok (pl1 c, 0) 1 ∗ tok (pl2 c, 0) 2 ∗ tok (pl3 c, 0) 3 ∗ tok (pt c, 8) 0 ∗ tok (pl1 c, 7) 0 ∗ tok (pl2 c, 6) 0 ∗ tok (pl3 c, 5) 0
    ∗ tok (c, 1) 0 ∗ tok (c, 2) 0 ∗ tok (c, 3) 0 ∗ tok (c, 4) 0)

omit [FloatOps F] in
/-- The tokens are dealt out to the devices that use them. -/
theorem deal : (bigSep Finset.univ fun c : Dev nD => (minted c : sProp 𝕄)) ⊢ bigSep Finset.univ fun c : Dev nD => paying c := by
  unfold minted paying
  simp only [bigSep_sep']
  rw [bigSep_univ_equiv (turn pt pt pt_pt pt_pt) (fun c : Dev nD => (tok (c, 0) 0 : sProp 𝕄)),
    bigSep_univ_equiv (turn pl1 pl3 pl3_pl1 pl1_pl3) (fun c : Dev nD => (tok (c, 0) 1 : sProp 𝕄)),
    bigSep_univ_equiv (turn pl2 pl2 pl2_pl2 pl2_pl2) (fun c : Dev nD => (tok (c, 0) 2 : sProp 𝕄)),
    bigSep_univ_equiv (turn pl3 pl1 pl1_pl3 pl3_pl1) (fun c : Dev nD => (tok (c, 0) 3 : sProp 𝕄)),
    bigSep_univ_equiv (turn pt pt pt_pt pt_pt) (fun c : Dev nD => (tok (c, 8) 0 : sProp 𝕄)),
    bigSep_univ_equiv (turn pl1 pl3 pl3_pl1 pl1_pl3) (fun c : Dev nD => (tok (c, 7) 0 : sProp 𝕄)),
    bigSep_univ_equiv (turn pl2 pl2 pl2_pl2 pl2_pl2) (fun c : Dev nD => (tok (c, 6) 0 : sProp 𝕄)),
    bigSep_univ_equiv (turn pl3 pl1 pl1_pl3 pl3_pl1) (fun c : Dev nD => (tok (c, 5) 0 : sProp 𝕄))]
  iintro ⟨H0, H1, H2, H3, S1, S2, S3, S4, R5, R6, R7, R8⟩
  isplitl [H0]; · iexact H0
  isplitl [H1]; · iexact H1
  isplitl [H2]; · iexact H2
  isplitl [H3]; · iexact H3
  isplitl [R8]; · iexact R8
  isplitl [R7]; · iexact R7
  isplitl [R6]; · iexact R6
  isplitl [R5]; · iexact R5
  isplitl [S1]; · iexact S1
  isplitl [S2]; · iexact S2
  isplitl [S3] <;> iassumption

omit [FloatOps F] in
/-- A persistent fact is given to every member of a big conjunction. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem keep (K : Dev nD × Fin 9 → ℕ) (c : Dev nD) :
    iprop(rec m K ∗ (bigSep Finset.univ fun k : Fin 9 => at0 (c, k)) ∗ paying c) ⊢ G' m c := by
  unfold G' linear paying
  rw [all9]
  iintro ⟨HR, Hat, Ht⟩
  isplitl [HR]; · iexists K; iexact HR
  isplitl [Hat] <;> iassumption

theorem regroup :
    (bigSep Finset.univ fun c : Dev nD => iprop((bigSep Finset.univ fun k => iprop(∃ κ : ℕ, cellInv ER (sched m) κ (kcell (c, k))))
          ∗ (bigSep Finset.univ fun k => iprop(at0 (c, k) ∗ reached ER (kcell (c, k)) 0)) ∗ minted c) : sProp 𝕄)
      ⊢ bigSep Finset.univ (G' m) := by
  rw [bigSep_sep', bigSep_sep', ← bigSep_univ_prod (fun ck : Dev nD × Fin 9 => iprop(∃ κ : ℕ, cellInv ER (sched m) κ (kcell ck))),
    bigSep_congr (s := Finset.univ) (fun (c : Dev nD) _ => bigSep_sep' Finset.univ (fun k : Fin 9 => (at0 (c, k) : sProp 𝕄)) (fun k => reached ER (kcell (c, k)) 0)),
    bigSep_sep', ← bigSep_univ_prod (fun ck : Dev nD × Fin 9 => (reached (ER (F := F)) (kcell ck) 0 : sProp 𝕄))]
  iintro ⟨HI, ⟨Hat, HR⟩, Htok⟩
  ihave HK := (BI.bigSep_exists_pi Finset.univ (fun (ck : Dev nD × Fin 9) (κ : ℕ) => (cellInv ER (sched m) κ (kcell ck) : sProp 𝕄))) $$ HI
  icases HK with ⟨%K, HI⟩
  ihave Ht := deal $$ Htok
  iapply (share_out (R := rec m K) fun c _ => keep m K c)
  isplitl [HI HR]
  · unfold rec; isplitl [HI] <;> iassumption
  · iapply (Entails.of_eq (bigSep_sep' Finset.univ (fun c : Dev nD => bigSep Finset.univ fun k : Fin 9 => (at0 (c, k) : sProp 𝕄)) paying).symm)
    isplitl [Hat] <;> iassumption

/-- The step over all devices that makes the cells and deals the tokens out. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => make_cells m c).trans (bigSep_fupd _ _)).trans (BI.fupd_mono (regroup m))

/-! ## The launch credit -/

omit [FloatOps F] in
theorem credit_of (k : Fin 9) (f g : Dev nD → Dev nD) (h1 : ∀ c, f (g c) = c) (h2 : ∀ c, g (f c) = c) (n : ℕ) (c : Dev nD) :
    (Pipeline.launchCred (fun d => tallyAt (kcell (f d, k)) () n) c : sProp 𝕄) ⊢ crd (c, k) n :=
  Pipeline.launchCred_tallyAt (csem k) f g h1 h2 () n c

omit [FloatOps F] in
/-- What a device owes at its launch, split by cell. -/
theorem split_owed (c : Dev nD) : (Pipeline.launchCred O₀ c : sProp 𝕄)
    = iprop((((((((Pipeline.launchCred (fun d => tallyAt (kcell (pl3 d, 5)) () NB) c ∗ Pipeline.launchCred (fun d => tallyAt (kcell (pl2 d, 6)) () NB) c)
        ∗ Pipeline.launchCred (fun d => tallyAt (kcell (pl1 d, 7)) () NB) c) ∗ Pipeline.launchCred (fun d => tallyAt (kcell (pt d, 8)) () NA) c)
        ∗ Pipeline.launchCred (fun d => tallyAt (kcell (pl3 d, 0)) () 1) c) ∗ Pipeline.launchCred (fun d => tallyAt (kcell (pl2 d, 0)) () 1) c)
        ∗ Pipeline.launchCred (fun d => tallyAt (kcell (pl1 d, 0)) () 1) c) ∗ Pipeline.launchCred (fun d => tallyAt (kcell (pt d, 0)) () 1) c)) := by
  rw [show (O₀ : Dev nD → CellTallies nD τ sig Unit) = fun d => OS1 d + tallyAt (kcell (pt d, 0)) () 1 from rfl, Pipeline.launchCred_add,
    show (OS1 : Dev nD → CellTallies nD τ sig Unit) = fun d => OS2 d + tallyAt (kcell (pl1 d, 0)) () 1 from rfl, Pipeline.launchCred_add,
    show (OS2 : Dev nD → CellTallies nD τ sig Unit) = fun d => OS3 d + tallyAt (kcell (pl2 d, 0)) () 1 from rfl, Pipeline.launchCred_add,
    show (OS3 : Dev nD → CellTallies nD τ sig Unit) = fun d => OA d + tallyAt (kcell (pl3 d, 0)) () 1 from rfl, Pipeline.launchCred_add,
    show (OA : Dev nD → CellTallies nD τ sig Unit) = fun d => O1 d + tallyAt (kcell (pt d, 8)) () NA from rfl, Pipeline.launchCred_add,
    show (O1 : Dev nD → CellTallies nD τ sig Unit) = fun d => O2 d + tallyAt (kcell (pl1 d, 7)) () NB from rfl, Pipeline.launchCred_add,
    show (O2 : Dev nD → CellTallies nD τ sig Unit) = fun d => O3 d + tallyAt (kcell (pl2 d, 6)) () NB from rfl, Pipeline.launchCred_add,
    show (O3 : Dev nD → CellTallies nD τ sig Unit) = fun d => tallyAt (kcell (pl3 d, 5)) () NB from rfl]

omit [FloatOps F] in
theorem four_units (c : Dev nD) : iprop(crd (c, 0) 1 ∗ crd (c, 0) 1 ∗ crd (c, 0) 1 ∗ crd (c, 0) 1) ⊢ (crd (c, 0) 4 : sProp 𝕄) := by
  have h : (tallyAt (kcell (c, 0)) () 4 : CellTallies nD τ sig Unit)
    = tallyAt (kcell (c, 0)) () 1 + (tallyAt (kcell (c, 0)) () 1 + (tallyAt (kcell (c, 0)) () 1 + tallyAt (kcell (c, 0)) () 1)) := by
      rw [show (4 : ℕ) = 1 + (1 + (1 + 1)) from rfl, tallyAt_add, tallyAt_add, tallyAt_add]
  unfold crd; rw [h]
  iintro ⟨H0, H1, H2, H3⟩
  iapply (cred_add _ _).2
  isplitl [H0]; · iexact H0
  iapply (cred_add _ _).2
  isplitl [H1]; · iexact H1
  iapply (cred_add _ _).2
  isplitl [H2] <;> iassumption

omit [FloatOps F] in
/-- All the credits a launch gives. -/
theorem all_credits (c : Dev nD) : (Pipeline.launchCred O₀ c : sProp 𝕄) ⊢ credits c := by
  rw [split_owed]; unfold credits
  iintro ⟨⟨⟨⟨⟨⟨⟨H5, H6⟩, H7⟩, H8⟩, B3⟩, B2⟩, B1⟩, B0⟩
  ihave B0 := (credit_of 0 pt pt pt_pt pt_pt 1 c) $$ B0
  ihave B1 := (credit_of 0 pl1 pl3 pl1_pl3 pl3_pl1 1 c) $$ B1
  ihave B2 := (credit_of 0 pl2 pl2 pl2_pl2 pl2_pl2 1 c) $$ B2
  ihave B3 := (credit_of 0 pl3 pl1 pl3_pl1 pl1_pl3 1 c) $$ B3
  isplitl [B0 B1 B2 B3]
  · iapply (four_units c)
    isplitl [B0]; · iexact B0
    isplitl [B1]; · iexact B1
    isplitl [B2] <;> iassumption
  isplitl [H8]; · iapply (credit_of 8 pt pt pt_pt pt_pt NA c); iexact H8
  isplitl [H7]; · iapply (credit_of 7 pl1 pl3 pl1_pl3 pl3_pl1 NB c); iexact H7
  isplitl [H6]; · iapply (credit_of 6 pl2 pl2 pl2_pl2 pl2_pl2 NB c); iexact H6
  iapply (credit_of 5 pl3 pl1 pl3_pl1 pl1_pl3 NB c); iexact H5

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (all_credits c) $$ Hcr
  imodintro
  unfold start
  isplitl
  · isplitl [HG]; · iexact HG
    isplitl [Hc] <;> iassumption
  · iempintro

/-- The launch gives what the body starts with, -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

/-- and gets back what it ends with. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, own_sems_eq, run_sems_eq]
  unfold Φ₁ scratch ended
  iintro ⟨Hr, H0, Hz⟩
  isplitl [H0]; · iexact H0
  isplitl [Hz] <;> iassumption

/-- The pipeline's own waits are below what the device owes. -/
theorem waits (c : Dev nD) : (levAts L lv : sProp 𝕄) ⊢ Pipeline.cellsWaits cfgs (dats m) () 0 c :=
  Pipeline.cellsWaits_intro cfgs (dats m) () 0 c fun w s t =>
    mayWait c _ 0 (by fin_cases w <;> fin_cases s <;> exact Nat.le_of_eq rfl) _ (by
      rcases t with ⟨_ | _, ht⟩
      · exact above_O₀ c
      · exact fun g u hg => absurd hg (Nat.lt_irrefl 0))

/-- Window `w`'s array on device `c` when the pipeline is done. -/
def final (c : Dev nD) (w : Fin cfg0.W) : Buf (Elt F) ((cfg0.win w).arr.view.loc (c : Thread nD τ)) := (dats m 0 c).arrAt w cfg0.N

/-- Every window's array is as the pipeline leaves it. -/
def Done (r : PUnit × MemSt nD τ sig (Elt F)) : Prop :=
  ∀ c : Dev nD, ∀ w : Fin cfg0.W, r.2.mem ((cfg0.win w).arr.view.loc (c : Thread nD τ)) = final m c w

set_option maxRecDepth 8000 in
/-- From any memory, with every counter at zero, the kernel ends on every device, leaves the windows' arrays at `final`
    and every counter at zero. -/
theorem run_main : θ_run defs (onTc (τ := τ) (main (F := F))) (s₀ m ρ) (fun r => Done m r ∧ r.2.sem = fun _ => 0) :=
  Pipeline.θ_run_region_owing_glob_pf (fun p => (cfgs p).toPCfg) (fun p => (cfgs p).toPCfg_adm) (dats m) () cellOf_inj (0 : Fin 1)
    winFacts0.to₀ own_sems (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj) (O₀ := O₀) (howed₀ := fun _ => rfl) (howedN := fun _ => rfl)
    (L := L) (lv := lv) (hL := L_of_ne) (hwaits := waits m) (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m) (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.MoE

end
-- ==== Proof.Frames.lean ====
/-
The frames: the kernel's run and the reference's, with the values dropped.
-/
module

public import proofs.«01_k».proof.Defs
public import proofs.«01_k».proof.Proof.Gen.Kernel
public import proofs.«01_k».proof.Proof.Run
public import proofs.«01_k».proof.Proof.Gen.ReferenceIdeal.Run

@[expose] public section

noncomputable section

namespace Cert.MoE

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The argument arrays hold what they held. -/
def Kept (s : MemSt nD τ sig (Elt F)) : Prop :=
  ∀ c : Dev nD, s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

/-- Input windows' arrays are never written. -/
theorem kept_of_done (r : PUnit × MemSt nD τ sig (Elt F)) (h : Done m r) : Kept m r.2 := fun c =>
  ⟨(h c (0 : Fin 6)).trans ((dats m 0 c).arrAt_in (0 : Fin 6) rfl _), (h c (1 : Fin 6)).trans ((dats m 0 c).arrAt_in (1 : Fin 6) rfl _),
    (h c (2 : Fin 6)).trans ((dats m 0 c).arrAt_in (2 : Fin 6) rfl _), (h c (3 : Fin 6)).trans ((dats m 0 c).arrAt_in (3 : Fin 6) rfl _),
    (h c (4 : Fin 6)).trans ((dats m 0 c).arrAt_in (4 : Fin 6) rfl _)⟩

/-- The kernel ends on every device with its arguments kept and every counter at zero, whatever the floats are. -/
theorem run_kept : θ_run (defs (F := F)) (onTc (τ := τ) (main (F := F))) ⟨m, fun _ => 0, ρ⟩ (fun r => Kept m r.2 ∧ r.2.sem = fun _ => 0) :=
  (θ_run defs _ _).mono (fun r h => ⟨kept_of_done m r h.1, h.2⟩) (run_main m ρ)

/-- The frame of the ideal kernel. -/
theorem frame_ideal : Cert.quiescent_KernelIdeal := fun m ρ _ => run_kept (F := Ideal) m ρ

/-- The program as printed and its ideal reading have the same text, body by body, -/
theorem bodies_same : @Cert.Kernel.defs₀ Bits _ _ = @Cert.KernelIdeal.defs₀ Bits _ _ := by
  unfold Cert.Kernel.defs₀ Cert.KernelIdeal.defs₀
  refine congrArg Defs.onTc (funext fun l => ?_)
  fin_cases l
  rfl
/-- and so they are the same program. -/
theorem defs_same : @Cert.Kernel.defs Bits _ _ = @Cert.KernelIdeal.defs Bits _ _ := by
  unfold Cert.Kernel.defs Cert.KernelIdeal.defs
  exact congrArg (Pipeline.defs (Cert.Kernel.pcfgs (F := Bits))) bodies_same

/-- The frame of the kernel as printed. -/
theorem frame_kernel : Cert.quiescent_Kernel := fun m ρ _ => by
  rw [defs_same]
  exact run_kept (F := Bits) m ρ

/-- The frame of the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.MoE

end
-- ==== Proof.Hot.lean ====
/-
The one-hot placement the kernel builds from a row mask, as mathematics: row `r` of the mask goes to the slot numbered by
how many masked rows stand before it. Packing by these rows and unpacking by them gives each masked row its own value back.
-/
module

public import Idealize.ShloMosaic.Lib.Pointwise

@[expose] public section

noncomputable section

namespace Cert.MoE

open Idealize.ShloMosaic
open scoped BigOperators

/-- The number a one-bit word stands for once it is widened and converted: one or nought. -/
theorem bit_val (b : BitVec 1) : FloatOps.sitofp (F := Ideal) .f32 (BitVec.setWidth 32 b) = if b = 1#1 then (1 : EReal) else 0 := by
  have h : b = 0#1 ∨ b = 1#1 := by revert b; decide
  show (((BitVec.setWidth 32 b).toInt : ℝ) : EReal) = _
  rcases h with h | h <;> subst h <;> norm_num [BitVec.toInt]

/-- A small natural number as a word reads as itself. -/
theorem word_int (q : ℕ) (hq : q < 2147483648) : (BitVec.ofNat 32 q).toInt = q := by
  rw [BitVec.toInt_eq_toNat_cond, BitVec.toNat_ofNat, Nat.mod_eq_of_lt (by omega), if_pos (by omega)]

/-- A truth value as a bit. -/
theorem bool_bit (p : Bool) : BitVec.ofBool p = 1#1 ↔ p = true := by cases p <;> decide

/-- A small natural number as a word converts to itself. -/
theorem nat_val (q : ℕ) (hq : q < 2147483648) : FloatOps.sitofp (F := Ideal) .f32 (BitVec.ofNat 32 q) = ((q : ℝ) : EReal) := by
  show (((BitVec.ofNat 32 q).toInt : ℝ) : EReal) = _
  rw [word_int q hq]; norm_num

/-- The order of two small numbers read as words. -/
theorem ge_bit (a b : ℕ) (ha : a < 2147483648) (hb : b < 2147483648) :
    IntOp.cmpi .sge (BitVec.ofNat 32 a) (BitVec.ofNat 32 b) = 1#1 ↔ b ≤ a := by
  have e : IntOp.cmpi .sge (BitVec.ofNat 32 a) (BitVec.ofNat 32 b) = BitVec.ofBool (decide (b ≤ a)) := by
    show BitVec.ofBool (BitVec.sle (BitVec.ofNat 32 b) (BitVec.ofNat 32 a)) = _
    rw [BitVec.sle, word_int a ha, word_int b hb]; simp
  rw [e, bool_bit, decide_eq_true_iff]

/-- Equality of words as a bit. -/
theorem eq_bit {w : ℕ} (a b : BitVec w) : IntOp.cmpi .eq a b = 1#1 ↔ a = b := by
  show BitVec.ofBool (a == b) = 1#1 ↔ _
  rw [bool_bit, beq_iff_eq]

/-- The pattern of minus one is minus one. -/
theorem neg_one_val : Ideal.ofBits .f32 3212836864#32 = ((-1 : ℝ) : EReal) := by
  simp [Ideal.ofBits, Ideal.ieee]
  rw [← EReal.coe_mul, ← EReal.coe_one, EReal.coe_eq_coe_iff]; norm_num

variable {n : ℕ}

/-- How many masked rows stand at or before row `r`. -/
def upto (P : Fin n → BitVec 1) (r : Fin n) : ℕ := (Finset.univ.filter fun k : Fin n => k ≤ r ∧ P k = 1#1).card

/-- How many masked rows there are. -/
def count (P : Fin n → BitVec 1) : ℕ := (Finset.univ.filter fun k : Fin n => P k = 1#1).card

/-- The placement's entry at row `r` and slot `q`, in the kernel's own scalar steps: the masked rows up to `r` counted by a
    product with a triangle of ones, one taken off, and the result compared with the slot's number. -/
def hot (P : Fin n → BitVec 1) (r : Fin n) (q : ℕ) : EReal :=
  FloatOps.sitofp (F := Ideal) .f32
    (BitVec.setWidth 32
      (BitVec.ofBool
        (decide
          ((if 0 < FloatOps.sitofp (F := Ideal) .f32 (BitVec.setWidth 32 (P r)) then
              ∑ x : Fin n,
                FloatOps.sitofp (F := Ideal) .f32
                    (BitVec.setWidth 32 (IntOp.cmpi CmpIPredicate.sge (BitVec.ofNat 32 ↑r) (BitVec.ofNat 32 ↑x))) *
                  FloatOps.sitofp (F := Ideal) .f32 (BitVec.setWidth 32 (P x)) - 1
            else Ideal.ofBits FTy.f32 3212836864#32) =
            FloatOps.sitofp (F := Ideal) FTy.f32 (BitVec.ofNat 32 q)))))

/-- The product with the triangle counts. -/
theorem tri_sum (P : Fin n → BitVec 1) (hn : n ≤ 2147483648) (r : Fin n) :
    (∑ x : Fin n,
        FloatOps.sitofp (F := Ideal) .f32
            (BitVec.setWidth 32 (IntOp.cmpi CmpIPredicate.sge (BitVec.ofNat 32 ↑r) (BitVec.ofNat 32 ↑x))) *
          FloatOps.sitofp (F := Ideal) .f32 (BitVec.setWidth 32 (P x)) : EReal) = ((upto P r : ℝ) : EReal) := by
  have e : ∀ x : Fin n,
      (FloatOps.sitofp (F := Ideal) .f32
            (BitVec.setWidth 32 (IntOp.cmpi CmpIPredicate.sge (BitVec.ofNat 32 ↑r) (BitVec.ofNat 32 ↑x))) *
          FloatOps.sitofp (F := Ideal) .f32 (BitVec.setWidth 32 (P x)) : EReal)
        = (((if x ≤ r ∧ P x = 1#1 then 1 else 0 : ℕ) : ℝ) : EReal) := by
    intro x
    rw [bit_val, bit_val]
    have hg := ge_bit r.val x.val (by omega) (by omega)
    by_cases h : x ≤ r <;> by_cases h' : P x = 1#1 <;> simp [hg, h, h', Fin.le_def.1, Fin.val_fin_le]
  rw [Finset.sum_congr rfl fun x _ => e x]
  rw [upto, Finset.card_filter]
  push_cast
  have : ∀ s : Finset (Fin n), (∑ i ∈ s, ((if i ≤ r ∧ P i = 1#1 then (1:ℝ) else 0 : ℝ) : EReal))
      = ((∑ i ∈ s, (if i ≤ r ∧ P i = 1#1 then (1:ℝ) else 0) : ℝ) : EReal) := by
    intro s
    classical
    induction s using Finset.induction_on with
    | empty => simp
    | insert a s ha ih => rw [Finset.sum_insert ha, Finset.sum_insert ha, ih, EReal.coe_add]
  exact this _

/-- The entry is one exactly where the row is masked and the slot's number is the number of masked rows before it. -/
theorem hot_eq (P : Fin n → BitVec 1) (hn : n ≤ 2147483648) (r : Fin n) (q : ℕ) (hq : q < 2147483648) :
    hot P r q = if P r = 1#1 ∧ upto P r = q + 1 then 1 else 0 := by
  unfold hot
  rw [tri_sum P hn r, bit_val, bit_val, neg_one_val, nat_val q hq]
  by_cases h : P r = 1#1
  · have e : (((upto P r : ℝ) : EReal) - 1 = ((q : ℝ) : EReal)) ↔ upto P r = q + 1 := by
      rw [show ((upto P r : ℝ) : EReal) - 1 = (((upto P r : ℝ) - 1 : ℝ) : EReal) from by
        rw [EReal.coe_sub]; rfl, EReal.coe_eq_coe_iff]
      constructor
      · intro h; have : ((upto P r : ℕ) : ℝ) = ((q + 1 : ℕ) : ℝ) := by push_cast; linarith
        exact_mod_cast this
      · intro h; rw [h]; push_cast; ring
    rw [if_pos (show (0 : EReal) < if P r = 1#1 then 1 else 0 by rw [if_pos h]; exact zero_lt_one)]
    simp only [bool_bit, decide_eq_true_iff, e, h, true_and]
  · have : ¬ (((-1 : ℝ) : EReal) = ((q : ℝ) : EReal)) := by
      rw [EReal.coe_eq_coe_iff]; intro hh; have : (0 : ℝ) ≤ q := Nat.cast_nonneg q; linarith
    simp only [h, if_false, lt_irrefl, this, decide_false, false_and]
    simp

/-- Masked rows have different numbers. -/
theorem upto_inj (P : Fin n → BitVec 1) {r s : Fin n} (hr : P r = 1#1) (hs : P s = 1#1) (h : upto P r = upto P s) : r = s := by
  have key : ∀ a b : Fin n, P b = 1#1 → a < b → upto P a < upto P b := by
    intro a b hb hab
    refine Finset.card_lt_card ?_
    rw [Finset.ssubset_iff_of_subset (by
      intro k; simp only [Finset.mem_filter, Finset.mem_univ, true_and]; exact fun hk => ⟨hk.1.trans hab.le, hk.2⟩)]
    exact ⟨b, by simp [hb], by simp [hab]⟩
  rcases lt_trichotomy r s with h' | h' | h'
  · exact absurd h (key r s hs h').ne
  · exact h'
  · exact absurd h (key s r hr h').ne'

/-- A masked row's number is at least one, and at most the number of masked rows. -/
theorem upto_pos (P : Fin n → BitVec 1) {r : Fin n} (hr : P r = 1#1) : 0 < upto P r :=
  Finset.card_pos.2 ⟨r, by simp [hr]⟩

/-- No more rows are masked up to a row than altogether. -/
theorem upto_le (P : Fin n → BitVec 1) (r : Fin n) : upto P r ≤ count P :=
  Finset.card_le_card fun k => by simp only [Finset.mem_filter, Finset.mem_univ, true_and]; exact fun h => h.2

/-- Packing: the slot of a masked row receives that row's value. -/
theorem pack (P : Fin n → BitVec 1) (hn : n ≤ 2147483648) {r : Fin n} {q : ℕ} (hq : q < 2147483648) (hr : P r = 1#1)
    (h : upto P r = q + 1) (v : Fin n → EReal) : ∑ k : Fin n, hot P k q * v k = v r := by
  rw [Finset.sum_eq_single r]
  · rw [hot_eq P hn r q hq, if_pos ⟨hr, h⟩, one_mul]
  · intro k _ hk
    rw [hot_eq P hn k q hq, if_neg (fun hh => hk (upto_inj P hh.1 hr (hh.2.trans h.symm))), zero_mul]
  · intro hh; exact absurd (Finset.mem_univ r) hh

/-- Unpacking: where the slots hold the values of the rows they belong to, each masked row gets its own value, and every
    other row nothing, if there are no more masked rows than slots. -/
theorem unpack (P : Fin n → BitVec 1) (hn : n ≤ 2147483648) {p : ℕ} (hp : p ≤ 2147483648) (hc : count P ≤ p)
    (G : Fin p → EReal) (f : Fin n → EReal)
    (hG : ∀ (r : Fin n) (q : Fin p), P r = 1#1 → upto P r = q.val + 1 → G q = f r) (r : Fin n) :
    ∑ q : Fin p, hot P r q.val * G q = if P r = 1#1 then f r else 0 := by
  by_cases h : P r = 1#1
  · have h1 := upto_pos P h
    have h2 := (upto_le P r).trans hc
    rw [if_pos h, Finset.sum_eq_single (⟨upto P r - 1, by omega⟩ : Fin p)]
    · rw [hot_eq P hn r _ (by show upto P r - 1 < _; omega), if_pos ⟨h, by show upto P r = upto P r - 1 + 1; omega⟩, one_mul]
      exact hG r _ h (by show upto P r = upto P r - 1 + 1; omega)
    · intro q _ hq
      rw [hot_eq P hn r _ (by omega), if_neg (fun hh => hq (Fin.ext (by show q.val = upto P r - 1; omega))), zero_mul]
    · intro hh; exact absurd (Finset.mem_univ _) hh
  · rw [if_neg h]
    refine Finset.sum_eq_zero fun q _ => ?_
    rw [hot_eq P hn r _ (by omega), if_neg (fun hh => h hh.1), zero_mul]

end Cert.MoE

end
-- ==== Proof.Payloads.lean ====
/-
What each stored value of the kernel is at one index, in the extended reals: the kernel's vector expressions read element
by element.
-/
module

public import proofs.«01_k».proof.Proof.Hot
public import proofs.«01_k».proof.Proof.Gen.KernelIdeal.Skeleton

@[expose] public section

noncomputable section

namespace Cert.MoE

open Cert.KernelIdeal Cert.KernelIdeal.Gen
open Idealize.ShloMosaic
open scoped BigOperators

/-- The owner of an expert's index, rounded down: the kernel's scalar steps for `x // 4` on words. -/
def fd (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        1#32)
      (IntOp.cmpi CmpIPredicate.ne (IntOp.remsi ArithUnit.vector x 4#32) 0#32))
    (IntOp.subi (IntOp.divsi ArithUnit.vector x 4#32) 1#32)
    (IntOp.divsi ArithUnit.vector x 4#32)

/-- The owner's place in its plane, as a word. -/
def place (x : BitVec 32) : BitVec 32 := IntOp.remsi ArithUnit.vector (fd x) 4#32

/-- The rows whose expert belongs to the device numbered `w`. -/
def ofDev {n : ℕ} (i : IVec ⟨2, ![n, 1]⟩ 32) (w : BitVec 32) : Fin n → BitVec 1 := fun x => IntOp.cmpi .eq (fd (i (ix2 x 0))) w

/-- The rows whose expert belongs to a device at the place numbered `w`. -/
def ofPlace {n : ℕ} (i : IVec ⟨2, ![n, 1]⟩ 32) (w : BitVec 32) : Fin n → BitVec 1 := fun x => IntOp.cmpi .eq (place (i (ix2 x 0))) w

/-- The kernel's constant in that comparison. -/
theorem one_word : Scalar.subi (Scalar.extui (Scalar.cmpi CmpIPredicate.sgt 4#32 0#32)) (Scalar.extui (Scalar.cmpi CmpIPredicate.slt 4#32 0#32)) = 1#32 := by
  decide

/-- A row's score for an expert. -/
def score (x : FVec Ideal ⟨2, ![1024, 512]⟩ .f32) (rw : FVec Ideal ⟨2, ![512, 32]⟩ .f32) (r : Fin 1024) (e : Fin 32) : EReal :=
  ∑ d : Fin 512, x (ix2 r d) * rw (ix2 d e)

/-- A row's greatest score, from the pattern of minus infinity. -/
def top (x : FVec Ideal ⟨2, ![1024, 512]⟩ .f32) (rw : FVec Ideal ⟨2, ![512, 32]⟩ .f32) (r : Fin 1024) : EReal :=
  Finset.fold max (Ideal.ofBits FTy.f32 4286578688#32) (fun e => score x rw r e) Finset.univ

/-- The softmax of a row's scores. -/
def prob (x : FVec Ideal ⟨2, ![1024, 512]⟩ .f32) (rw : FVec Ideal ⟨2, ![512, 32]⟩ .f32) (r : Fin 1024) (e : Fin 32) : EReal :=
  Ideal.div (Ideal.exp (score x rw r e - top x rw r)) (∑ e' : Fin 32, Ideal.exp (score x rw r e' - top x rw r))

/-- The masked softmax: its value at the column of the row's expert, nothing elsewhere. -/
theorem pay3_apply (x : FVec Ideal S1024x512 .f32) (rw : FVec Ideal S512x32 .f32) (ix : IVec S1024x1 32) (r : Fin 1024) (e : Fin 32) :
    k0_pay3 (F := Ideal) x rw ix (ix2 r e)
      = Scalar.select (IntOp.cmpi .eq (BitVec.ofNat 32 e.val) (ix (ix2 r 0))) (prob x rw r e) 0 := by
  pointwise [k0_pay3, k0_pay2, k0_pay1]
  rfl

/-- The stored tokens are the tokens. -/
theorem pay4_apply (x : FVec Ideal S1024x512 .f32) (r : Fin 1024) (d : Fin 512) :
    k0_pay4 (F := Ideal) (k0_pay1 (F := Ideal) x) (ix2 r d) = x (ix2 r d) := by
  pointwise [k0_pay4, k0_pay1]

/-- A local gate: the masked softmax's row sum, if the row's expert is this one. -/
theorem pay5_apply (w : BitVec 32) (ix : IVec S1024x1 32) (V : FVec Ideal S1024x32 .f32) (r : Fin 1024) (j : Fin 4) :
    k0_pay5 (F := Ideal) w (k0_pay2 (F := Ideal) ix) V (ix2 r j)
      = FloatOps.sitofp (F := Ideal) .f32 (BitVec.setWidth 32 (IntOp.cmpi .eq (ix (ix2 r 0)) (IntOp.addi (BitVec.ofNat 32 j.val) (Scalar.muli w 4#32))))
        * ∑ e : Fin 32, V (ix2 r e) := by
  pointwise [k0_pay5, k0_pay2]

/-- The local experts' weights, one under the other. -/
theorem pay6_apply (V : FVec Ideal S4x512x1024 .f32) (k : Fin 2048) (h : Fin 1024) :
    k0_pay6 (F := Ideal) V (ix2 k h) = V (ix3 ⟨k.val / 512, by omega⟩ ⟨k.val % 512, by omega⟩ h) := by
  pointwise [k0_pay6]

/-- A packed slot: the packed row weighted by its packed gates, times the weights. -/
theorem pay10_apply (w : BitVec 32) (ew : FVec Ideal S2048x1024 .bf16) (i : IVec S512x1 32) (X : FVec Ideal S512x512 .bf16)
    (C : FVec Ideal S512x4 .bf16) (q : Fin 112) (h : Fin 1024) :
    k0_pay11 (F := Ideal) (k0_pay10 (F := Ideal) w ew (k0_pay7 (F := Ideal) i) 4#32 (k0_pay8 (F := Ideal) i) (k0_pay9 (F := Ideal) i) 1#32 X C) (ix2 q h)
      = ∑ k : Fin 2048, ((∑ x : Fin 512, hot (ofDev i w) x q.val * X (ix2 x ⟨k.val % 512, by omega⟩))
          * (∑ x : Fin 512, hot (ofDev i w) x q.val * C (ix2 x ⟨k.val / 512, by omega⟩))) * ew (ix2 k h) := by
  pointwise [k0_pay10, k0_pay11, k0_pay7, k0_pay8, k0_pay9]
  rfl

/-- The own rows: the packed products, put back by the placement matrix. -/
theorem pay15_apply (w : BitVec 32) (ew : FVec Ideal S2048x1024 .bf16) (i : IVec S512x1 32) (X : FVec Ideal S512x512 .bf16)
    (C : FVec Ideal S512x4 .bf16) (r : Fin 512) (h : Fin 1024) :
    k0_pay15 (F := Ideal) ew (k0_pay13 (F := Ideal) w i) k0_pay14 X C (ix2 r h)
      = ∑ q : Fin 112, hot (ofDev i w) r q.val
        * ∑ k : Fin 2048, ((∑ x : Fin 512, hot (ofDev i w) x q.val * X (ix2 x ⟨k.val % 512, by omega⟩))
          * (∑ x : Fin 512, hot (ofDev i w) x q.val * C (ix2 x ⟨k.val / 512, by omega⟩))) * ew (ix2 k h) := by
  pointwise [k0_pay15, k0_pay14, k0_pay13, k0_pay12]
  rfl

/-- The other plane's rows are put back and added. -/
theorem pay17_apply (w : BitVec 32) (i : IVec S512x1 32) (A : FVec Ideal S512x1024 .bf16) (G : FVec Ideal S112x1024 .bf16)
    (r : Fin 512) (h : Fin 1024) :
    k0_pay17 (F := Ideal) (k0_pay16 w (k0_pay12 (F := Ideal) i)) A G (ix2 r h)
      = A (ix2 r h) + ∑ q : Fin 112, hot (ofDev i w) r q.val * G (ix2 q h) := by
  pointwise [k0_pay17, k0_pay16, k0_pay12]
  rfl

/-- The first packed chunk. -/
theorem pay22_apply (w : BitVec 32) (i : IVec S128x1 32) (A : FVec Ideal S128x1024 .bf16) (q : Fin 64) (h : Fin 1024) :
    k0_pay22 (F := Ideal) (k0_pay21 (F := Ideal) w (k0_pay18 (F := Ideal) i) 4#32 (k0_pay19 (F := Ideal) i) (k0_pay20 (F := Ideal) i) 0#32 A) (ix3 0 q h)
      = ∑ x : Fin 128, hot (ofPlace i w) x q.val * A (ix2 x h) := by
  pointwise [k0_pay22, k0_pay21, k0_pay20, k0_pay19, k0_pay18]
  rfl

/-- The second packed chunk. -/
theorem pay26_apply (w : BitVec 32) (i : IVec S128x1 32) (A : FVec Ideal S128x1024 .bf16) (q : Fin 64) (h : Fin 1024) :
    k0_pay26 (F := Ideal) w (k0_pay23 (F := Ideal) i) 4#32 (k0_pay24 (F := Ideal) i) (k0_pay25 (F := Ideal) i) 1#32 0#1 A (ix3 0 q h)
      = ∑ x : Fin 128, hot (ofPlace i w) x q.val * A (ix2 x h) := by
  pointwise [k0_pay26, k0_pay25, k0_pay24, k0_pay23]
  rfl

/-- The third packed chunk. -/
theorem pay31_apply (w : BitVec 32) (i : IVec S128x1 32) (A : FVec Ideal S128x1024 .bf16) (q : Fin 64) (h : Fin 1024) :
    k0_pay31 (F := Ideal) w (k0_pay28 (F := Ideal) i) (k0_pay29 (F := Ideal) i) (k0_pay30 (F := Ideal) i) A (ix3 0 q h)
      = ∑ x : Fin 128, hot (ofPlace i w) x q.val * A (ix2 x h) := by
  pointwise [k0_pay31, k0_pay30, k0_pay29, k0_pay28, k0_pay27]
  rfl

/-- The shared expert's product and the accumulated rows. -/
theorem pay32_apply (x : FVec Ideal S128x512 .f32) (ws : FVec Ideal S512x1024 .f32) (A : FVec Ideal S128x1024 .bf16) (r : Fin 128) (h : Fin 1024) :
    k0_pay32 (F := Ideal) x ws A (ix2 r h) = (∑ d : Fin 512, x (ix2 r d) * ws (ix2 d h)) + A (ix2 r h) := by
  pointwise [k0_pay32]

/-- The word of the place `t` before `w` around a plane, as the kernel computes it. -/
def back (w t : BitVec 32) : BitVec 32 := Scalar.remsi (Scalar.addi (Scalar.subi w t) 4#32) 4#32

/-- The first unpacking matrix is a placement. -/
theorem pay37_apply (w : BitVec 32) (i : IVec S128x1 32) (r : Fin 128) (q : Fin 64) :
    k0_pay37 (F := Ideal) w (k0_pay33 (F := Ideal) i) 4#32 (k0_pay34 (F := Ideal) i) (k0_pay35 (F := Ideal) i) 1#32 0#1 (ix2 r q)
      = hot (ofPlace i (back w 1#32)) r q.val := by
  pointwise [k0_pay37, k0_pay36, k0_pay35, k0_pay34, k0_pay33]
  rfl

/-- The second unpacking matrix is a placement. -/
theorem pay40_apply (w : BitVec 32) (i : IVec S128x1 32) (r : Fin 128) (q : Fin 64) :
    k0_pay40 (F := Ideal) (k0_pay38 (k0_pay33 (F := Ideal) i) 4#32 (k0_pay34 (F := Ideal) i) (k0_pay35 (F := Ideal) i) 1#32 0#1) (k0_pay39 w) (ix2 r q)
      = hot (ofPlace i (back w 2#32)) r q.val := by
  pointwise [k0_pay40, k0_pay39, k0_pay38, k0_pay36, k0_pay35, k0_pay34, k0_pay33]
  rfl

/-- The third unpacking matrix is a placement. -/
theorem pay42_apply (w : BitVec 32) (i : IVec S128x1 32) (r : Fin 128) (q : Fin 64) :
    k0_pay42 (F := Ideal) (k0_pay41 (F := Ideal) w (k0_pay36 (k0_pay33 (F := Ideal) i) 4#32 (k0_pay34 (F := Ideal) i) (k0_pay35 (F := Ideal) i) 1#32 0#1)) (ix2 r q)
      = hot (ofPlace i (back w 3#32)) r q.val := by
  pointwise [k0_pay42, k0_pay41, k0_pay36, k0_pay35, k0_pay34, k0_pay33]
  rfl

/-- The first peer's rows are put back and added, -/
theorem pay43_apply (u : FVec Ideal S128x64 .bf16) (o : FVec Ideal S128x1024 .f32) (s : FVec Ideal S1x64x1024 .bf16) (r : Fin 128) (h : Fin 1024) :
    k0_pay43 (F := Ideal) u o s (ix2 r h) = o (ix2 r h) + ∑ q : Fin 64, u (ix2 r q) * s (ix3 0 q h) := by
  pointwise [k0_pay43]

/-- then the second's, -/
theorem pay45_apply (u : FVec Ideal S128x64 .bf16) (o : FVec Ideal S128x1024 .f32) (s : FVec Ideal S1x64x1024 .bf16) (r : Fin 128) (h : Fin 1024) :
    k0_pay45 (F := Ideal) u (k0_pay44 (F := Ideal) o) s (ix2 r h) = o (ix2 r h) + ∑ q : Fin 64, u (ix2 r q) * s (ix3 0 q h) := by
  pointwise [k0_pay45, k0_pay44]

/-- then the third's. -/
theorem pay46_apply (u : FVec Ideal S128x64 .bf16) (o : FVec Ideal S128x1024 .f32) (s : FVec Ideal S1x64x1024 .bf16) (r : Fin 128) (h : Fin 1024) :
    k0_pay46 (F := Ideal) u o s (ix2 r h) = o (ix2 r h) + ∑ q : Fin 64, u (ix2 r q) * s (ix3 0 q h) := by
  pointwise [k0_pay46]

end Cert.MoE

end
-- ==== Proof.Softmax.lean ====
/-
The softmax of finite scores is a number between nought and one; and what a row's routed product is: the tokens weighted by
the softmax before the product, or the product weighted after it.
-/
module

public import proofs.«01_k».proof.Proof.Payloads

@[expose] public section

noncomputable section

namespace Cert.MoE

open Idealize.ShloMosaic
open scoped BigOperators

/-- Every element is a real number. -/
def Finite {s : Shape} (v : s.Idx → EReal) : Prop := ∀ i, ∃ a : ℝ, v i = a

/-- A sum of real numbers is a real number. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

variable {x : FVec Ideal ⟨2, ![1024, 512]⟩ .f32} {rw : FVec Ideal ⟨2, ![512, 32]⟩ .f32}

/-- A score of finite operands is a real number. -/
theorem score_real (hx : Finite x) (hr : Finite rw) (r : Fin 1024) (e : Fin 32) : ∃ a : ℝ, score x rw r e = a := by
  choose f hf using hx
  choose g hg using hr
  refine ⟨∑ d : Fin 512, f (ix2 r d) * g (ix2 d e), ?_⟩
  unfold score
  rw [← coe_sum]
  refine Finset.sum_congr rfl fun d _ => ?_
  rw [hf, hg, EReal.coe_mul]

/-- The pattern of minus infinity is minus infinity. -/
theorem bottom_val : Ideal.ofBits FTy.f32 4286578688#32 = ⊥ := by
  simp [Ideal.ofBits, Ideal.ieee]

/-- So is the greatest score. -/
theorem top_real (hx : Finite x) (hr : Finite rw) (r : Fin 1024) : ∃ a : ℝ, top x rw r = a := by
  have h1 : top x rw r ≠ ⊥ := by
    obtain ⟨a, ha⟩ := score_real hx hr r 0
    intro hb
    have : score x rw r 0 ≤ top x rw r := (Finset.le_fold_max _).2 (Or.inr ⟨0, Finset.mem_univ _, le_rfl⟩)
    rw [hb, ha, le_bot_iff] at this
    exact EReal.coe_ne_bot a this
  have h2 : top x rw r ≠ ⊤ := by
    refine ne_of_lt ((Finset.fold_max_lt _).2 ⟨?_, fun e _ => ?_⟩)
    · rw [bottom_val]; exact bot_lt_top
    · obtain ⟨a, ha⟩ := score_real hx hr r e
      rw [ha]; exact EReal.coe_lt_top a
  exact ⟨(top x rw r).toReal, (EReal.coe_toReal h2 h1).symm⟩

/-- The softmax of finite scores is a number, and none of its values is negative. -/
theorem prob_real (hx : Finite x) (hr : Finite rw) (r : Fin 1024) (e : Fin 32) : ∃ p : ℝ, 0 ≤ p ∧ prob x rw r e = p := by
  obtain ⟨t, ht⟩ := top_real hx hr r
  choose s hs using score_real hx hr r
  have he : ∀ e, Ideal.exp (score x rw r e - top x rw r) = ((Real.exp (s e - t) : ℝ) : EReal) := by
    intro e
    rw [hs, ht, ← EReal.coe_sub]; rfl
  have hpos : 0 < ∑ e' : Fin 32, Real.exp (s e' - t) := Finset.sum_pos (fun _ _ => Real.exp_pos _) ⟨0, Finset.mem_univ _⟩
  refine ⟨Real.exp (s e - t) * (1 / ∑ e' : Fin 32, Real.exp (s e' - t)), ?_, ?_⟩
  · exact mul_nonneg (Real.exp_pos _).le (one_div_nonneg.2 hpos.le)
  · unfold prob
    rw [he, Finset.sum_congr rfl fun e _ => he e, coe_sum, Ideal.div_coe hpos.ne', ← EReal.coe_mul]

/-- A number that is not negative goes into a sum. -/
theorem mul_sum_real {ι : Type} (p : ℝ) (hp : 0 ≤ p) (s : Finset ι) (f : ι → EReal) :
    (p : EReal) * ∑ i ∈ s, f i = ∑ i ∈ s, (p : EReal) * f i := by
  classical
  induction s using Finset.induction_on with
  | empty => simp
  | insert a s ha ih =>
    rw [Finset.sum_insert ha, Finset.sum_insert ha,
      EReal.left_distrib_of_nonneg_of_ne_top (EReal.coe_nonneg.2 hp) (EReal.coe_ne_top p), ih]

variable (x rw)
variable (ix : IVec ⟨2, ![1024, 1]⟩ 32) (W : FVec Ideal ⟨3, ![32, 512, 1024]⟩ .f32)

/-- The expert numbered `j` on the device numbered `c`. -/
def expert (c : Fin 8) (j : Fin 4) : Fin 32 := ⟨4 * c.val + j.val, by omega⟩

/-- The weight of a row for one of a device's experts: the softmax's value if the row is routed there. -/
def coeff (c : Fin 8) (r : Fin 1024) (j : Fin 4) : EReal :=
  if ix (ix2 r 0) = BitVec.ofNat 32 (expert c j).val then prob x rw r (expert c j) else 0

/-- What the device numbered `c` adds to row `r`: the row weighted for each of its experts, times their weights side by side. -/
def part (c : Fin 8) (r : Fin 1024) (h : Fin 1024) : EReal :=
  ∑ k : Fin 2048, (x (ix2 r ⟨k.val % 512, by omega⟩) * coeff x rw ix c r ⟨k.val / 512, by omega⟩)
    * W (ix3 (expert c ⟨k.val / 512, by omega⟩) ⟨k.val % 512, by omega⟩ h)

/-- The addend of expert `e` in row `r`: the weighted product, if the row is routed there. -/
def term (r : Fin 1024) (h : Fin 1024) (e : Fin 32) : EReal :=
  if ix (ix2 r 0) = BitVec.ofNat 32 e.val then prob x rw r e * ∑ d : Fin 512, x (ix2 r d) * W (ix3 e d h) else 0

/-- A device's part is the sum of its experts' addends. -/
theorem part_eq (hx : Finite x) (hr : Finite rw) (c : Fin 8) (r : Fin 1024) (h : Fin 1024) :
    part x rw ix W c r h = ∑ j : Fin 4, term x rw ix W r h (expert c j) := by
  have e1 : part x rw ix W c r h = ∑ jd : Fin 4 × Fin 512, (x (ix2 r jd.2) * coeff x rw ix c r jd.1) * W (ix3 (expert c jd.1) jd.2 h) := by
    unfold part
    exact Fintype.sum_equiv (finProdFinEquiv (m := 4) (n := 512)).symm _ _ fun k => rfl
  rw [e1, Fintype.sum_prod_type]
  refine Finset.sum_congr rfl fun j _ => ?_
  unfold coeff term
  by_cases hh : ix (ix2 r 0) = BitVec.ofNat 32 (expert c j).val
  · obtain ⟨p, hp, e⟩ := prob_real hx hr r (expert c j)
    simp only [if_pos hh]
    rw [e, mul_sum_real p hp]
    refine Finset.sum_congr rfl fun d _ => ?_
    rw [mul_comm (x (ix2 r d)) (p : EReal), mul_assoc]
  · simp only [if_neg hh, mul_zero, zero_mul, Finset.sum_const_zero]

/-- The devices' parts together are the experts' addends together. -/
theorem sum_part (hx : Finite x) (hr : Finite rw) (r : Fin 1024) (h : Fin 1024) :
    ∑ c : Fin 8, part x rw ix W c r h = ∑ e : Fin 32, term x rw ix W r h e := by
  rw [Finset.sum_congr rfl fun c _ => part_eq x rw ix W hx hr c r h]
  have := Fintype.sum_equiv (finProdFinEquiv (m := 8) (n := 4)) (fun cj : Fin 8 × Fin 4 => term x rw ix W r h (expert cj.1 cj.2))
    (fun e : Fin 32 => term x rw ix W r h e) (fun cj => by
      congr 1; apply Fin.ext; show 4 * cj.1.val + cj.2.val = cj.2.val + 4 * cj.1.val; omega)
  rw [← this, Fintype.sum_prod_type]

/-- The owner of an expert's index. -/
theorem fd_expert : ∀ (c : Fin 8) (j : Fin 4), fd (BitVec.ofNat 32 (expert c j).val) = BitVec.ofNat 32 c.val := by decide +kernel

/-- Its owner's place. -/
theorem place_dev : ∀ (c : Fin 8), IntOp.remsi ArithUnit.vector (BitVec.ofNat 32 c.val) 4#32 = BitVec.ofNat 32 (c.val % 4) := by decide +kernel

/-- A device adds nothing to a row that another owner's expert serves. -/
theorem part_zero (c : Fin 8) (r : Fin 1024) (h : Fin 1024) (hne : fd (ix (ix2 r 0)) ≠ BitVec.ofNat 32 c.val) :
    part x rw ix W c r h = 0 := by
  refine Finset.sum_eq_zero fun k _ => ?_
  have : coeff x rw ix c r ⟨k.val / 512, by omega⟩ = 0 := by
    refine if_neg fun hh => hne ?_
    rw [hh, fd_expert]
  rw [this, mul_zero, zero_mul]

end Cert.MoE

end
-- ==== Proof.Reads.lean ====
/-
What the kernel reads: the rows of a half and of a chunk, the tokens, gates and weights, each as the entry of the array it is.
-/
module

public import proofs.«01_k».proof.Proof.Values
public import proofs.«01_k».proof.Proof.Softmax

@[expose] public section

noncomputable section

namespace Cert.MoE

open Cert.KernelIdeal Cert.KernelIdeal.Gen
open Idealize.ShloMosaic
open Idealize.ShloMosaic.TcCoe
open Idealize.SL Idealize.SL.Sem
open scoped BigOperators

/-- A read of rows from `o` on. -/
theorem read_rows {N M n k : ℕ} {e : EltTy} (v : View sig .tc .vmem ⟨2, ![N, M]⟩ e) (f : v.ty.Contents (Elt Ideal)) {off : Fin 2 → ℕ} (o : ℕ)
    (inb : ∀ a, off a + (![n, k] : Fin 2 → ℕ) a ≤ (![N, M] : Fin 2 → ℕ) a) (ho : off = ![o, 0]) (r : Fin n) (q : Fin k) (hr : o + r.val < N) (hq : q.val < M) :
    v.readAt (Elt Ideal) (Rect.unit (s := ⟨2, ![N, M]⟩) off ![n, k] inb).toLoadRect f (ix2 r q)
      = v.read (Elt Ideal) f (ix2 ⟨o + r.val, hr⟩ ⟨q.val, hq⟩) := by
  subst ho
  refine congrArg (v.read (Elt Ideal) f) (funext fun a => Fin.ext ?_)
  match a with
  | 0 => show o + 1 * r.val = o + r.val; omega
  | 1 => show 0 + 1 * q.val = q.val; omega

/-- The routes of `n` rows from `o` on. -/
def rows (ix : IVec ⟨2, ![1024, 1]⟩ 32) (o n : ℕ) (h : o + n ≤ 1024) : IVec ⟨2, ![n, 1]⟩ 32 :=
  fun j => ix (ix2 ⟨o + (j 0).val, by have := (j 0).isLt; change (j 0).val < n at this; omega⟩ 0)

/-- A half lies within the rows. -/
theorem half_le (c : Dev nD) : 512 * (c.val / 4) + 512 ≤ 1024 := by have h := c.isLt; change c.val < 8 at h; omega
/-- A chunk lies within the rows. -/
theorem chunk_le (c : Dev nD) : 128 * c.val + 128 ≤ 1024 := by have h := c.isLt; change c.val < 8 at h; omega

/-- A row of a device's half, and of its chunk. -/
def halfRow (c : Dev nD) (r : Fin 512) : Fin 1024 := ⟨512 * (c.val / 4) + r.val, by have := half_le c; omega⟩
/-- A row of its chunk. -/
def chunkRow (c : Dev nD) (r : Fin 128) : Fin 1024 := ⟨128 * c.val + r.val, by have := chunk_le c; omega⟩
/-- A row of a device's chunk within its half. -/
def inHalf (c : Dev nD) (r : Fin 128) : Fin 512 := ⟨128 * (c.val % 4) + r.val, by omega⟩

/-- A row of the chunk, reached through the half. -/
theorem halfRow_inHalf (c : Dev nD) (r : Fin 128) : halfRow c (inHalf c r) = chunkRow c r := by
  apply Fin.ext
  show 512 * (c.val / 4) + (128 * (c.val % 4) + r.val) = 128 * c.val + r.val
  omega

/-- The other half's first row, as the kernel computes it for the routes, -/
theorem off1_pt (c : Dev nD) : k0_off1 c = ![512 * ((pt c).val / 4), 0] := by revert c; decide +kernel
/-- for the tokens, -/
theorem off2_pt (c : Dev nD) : k0_off2 c = ![512 * ((pt c).val / 4), 0] := by revert c; decide +kernel
/-- and for the gates. -/
theorem off3_pt (c : Dev nD) : k0_off3 c = ![512 * ((pt c).val / 4), 0] := by revert c; decide +kernel
/-- The own half's first row, for the routes, -/
theorem off4_own (c : Dev nD) : k0_off4 c = ![512 * (c.val / 4), 0] := by revert c; decide +kernel
/-- for the tokens, -/
theorem off5_own (c : Dev nD) : k0_off5 c = ![512 * (c.val / 4), 0] := by revert c; decide +kernel
/-- and for the gates. -/
theorem off6_own (c : Dev nD) : k0_off6 c = ![512 * (c.val / 4), 0] := by revert c; decide +kernel
/-- The receiver's chunk among all rows: from the device three places on, -/
theorem off7_pl3 (c : Dev nD) : k0_off7 (pl3 c) 1#32 = ![128 * c.val, 0] := by revert c; decide +kernel
/-- two places on, -/
theorem off7_pl2 (c : Dev nD) : k0_off7 (pl2 c) 2#32 = ![128 * c.val, 0] := by revert c; decide +kernel
/-- one place on. -/
theorem off7_pl1 (c : Dev nD) : k0_off7 (pl1 c) 3#32 = ![128 * c.val, 0] := by revert c; decide +kernel
/-- The receiver's chunk within the half: from the device three places on, -/
theorem off8_pl3 (c : Dev nD) : k0_off8 (pl3 c) 1#32 = ![128 * (c.val % 4), 0] := by revert c; decide +kernel
/-- two places on, -/
theorem off8_pl2 (c : Dev nD) : k0_off8 (pl2 c) 2#32 = ![128 * (c.val % 4), 0] := by revert c; decide +kernel
/-- one place on. -/
theorem off8_pl1 (c : Dev nD) : k0_off8 (pl1 c) 3#32 = ![128 * (c.val % 4), 0] := by revert c; decide +kernel
/-- The own chunk among the tokens, -/
theorem off9_own (c : Dev nD) : k0_off9 c = ![128 * c.val, 0] := by revert c; decide +kernel
/-- within the half, -/
theorem off10_own (c : Dev nD) : k0_off10 c = ![128 * (c.val % 4), 0] := by revert c; decide +kernel
/-- and among the routes. -/
theorem off11_own (c : Dev nD) : k0_off11 c = ![128 * c.val, 0] := by revert c; decide +kernel

/-- A read of routes is a list of rows' routes. -/
theorem read_routes (ix : IVec ⟨2, ![1024, 1]⟩ 32) {n : ℕ} {off : Fin 2 → ℕ} (o : ℕ) (h : o + n ≤ 1024)
    (inb : ∀ a, off a + (![n, 1] : Fin 2 → ℕ) a ≤ (![1024, 1] : Fin 2 → ℕ) a) (ho : off = ![o, 0]) :
    iM.view.readAt (Elt Ideal) (Rect.unit (s := ⟨2, ![1024, 1]⟩) off ![n, 1] inb).toLoadRect ix = rows ix o n h := by
  funext j
  have hj : j = ix2 (j 0) (0 : Fin 1) := by
    funext a
    match a with
    | 0 => rfl
    | 1 => exact Subsingleton.elim (α := Fin 1) _ _
  rw [hj]
  exact read_rows (n := n) (k := 1) iM.view ix o inb ho (j 0) 0 _ _

/-- The arrays every device holds: the tokens, the gate's weights, the routes, the shared expert's weights; and each device's
own experts' weights. -/
structure Inputs (m : (ℓ : Loc nD τ sig) → Buf (Elt Ideal) ℓ) (x : FVec Ideal ⟨2, ![1024, 512]⟩ .f32) (rw : FVec Ideal ⟨2, ![512, 32]⟩ .f32)
    (ix : IVec ⟨2, ![1024, 1]⟩ 32) (W : FVec Ideal ⟨3, ![32, 512, 1024]⟩ .f32) (ws : FVec Ideal ⟨2, ![512, 1024]⟩ .f32) : Prop where
  tokens : ∀ c, xV m c = x
  gates : ∀ c, rwV m c = rw
  routes : ∀ c, ixV m c = ix
  weights : ∀ c j d h, weV m c (ix3 j d h) = W (ix3 (expert c j) d h)
  shared : ∀ c, wsV m c = ws

variable {m : (ℓ : Loc nD τ sig) → Buf (Elt Ideal) ℓ} {x : FVec Ideal ⟨2, ![1024, 512]⟩ .f32} {rw : FVec Ideal ⟨2, ![512, 32]⟩ .f32}
  {ix : IVec ⟨2, ![1024, 1]⟩ 32} {W : FVec Ideal ⟨3, ![32, 512, 1024]⟩ .f32} {ws : FVec Ideal ⟨2, ![512, 1024]⟩ .f32}

/-- The routes read for the other half are that half's, -/
theorem ixO_eq (I : Inputs m x rw ix W ws) (c : Dev nD) : ixO m c = rows ix (512 * ((pt c).val / 4)) 512 (half_le (pt c)) := by
  unfold ixO; rw [I.routes]; exact read_routes ix _ (half_le (pt c)) _ (off1_pt c)
/-- for the own half its own, -/
theorem ixM_eq (I : Inputs m x rw ix W ws) (c : Dev nD) : ixM m c = rows ix (512 * (c.val / 4)) 512 (half_le c) := by
  unfold ixM; rw [I.routes]; exact read_routes ix _ (half_le c) _ (off4_own c)
/-- for the own chunk its own, -/
theorem ixC_eq (I : Inputs m x rw ix W ws) (c : Dev nD) : ixC m c = rows ix (128 * c.val) 128 (chunk_le c) := by
  unfold ixC; rw [I.routes]; exact read_routes ix _ (chunk_le c) _ (off11_own c)
/-- and for a chunk sent on, the receiver's: the first, -/
theorem ixS1_eq (I : Inputs m x rw ix W ws) (c : Dev nD) : ixS1 m (pl3 c) = rows ix (128 * c.val) 128 (chunk_le c) := by
  unfold ixS1; rw [I.routes]; exact read_routes ix _ (chunk_le c) _ (off7_pl3 c)
/-- the second, -/
theorem ixS2_eq (I : Inputs m x rw ix W ws) (c : Dev nD) : ixS2 m (pl2 c) = rows ix (128 * c.val) 128 (chunk_le c) := by
  unfold ixS2; rw [I.routes]; exact read_routes ix _ (chunk_le c) _ (off7_pl2 c)
/-- and the third. -/
theorem ixS3_eq (I : Inputs m x rw ix W ws) (c : Dev nD) : ixS3 m (pl1 c) = rows ix (128 * c.val) 128 (chunk_le c) := by
  unfold ixS3; rw [I.routes]; exact read_routes ix _ (chunk_le c) _ (off7_pl1 c)

/-- The stored tokens are the tokens. -/
theorem xbV_apply (I : Inputs m x rw ix W ws) (c : Dev nD) (r : Fin 1024) (d : Fin 512) : xbV m c (ix2 r d) = x (ix2 r d) := by
  unfold xbV; rw [I.tokens]; exact pay4_apply x r d

/-- The weights side by side are the device's experts' rows. -/
theorem ewV_apply (I : Inputs m x rw ix W ws) (c : Dev nD) (k : Fin 2048) (h : Fin 1024) :
    ewV m c (ix2 k h) = W (ix3 (expert c ⟨k.val / 512, by omega⟩) ⟨k.val % 512, by omega⟩ h) := by
  unfold ewV; rw [← I.weights]; exact pay6_apply _ k h

/-- The word of an expert's index, from the device's word. -/
theorem expert_word : ∀ (c : Fin 8) (j : Fin 4),
    IntOp.addi (BitVec.ofNat 32 j.val) (Scalar.muli (BitVec.ofNat 32 c.val) 4#32) = BitVec.ofNat 32 (expert c j).val := by decide +kernel

/-- Different experts have different words. -/
theorem expert_ne : ∀ a b : Fin 32, BitVec.ofNat 32 a.val = BitVec.ofNat 32 b.val → a = b := by decide +kernel

/-- The stored gates are the softmax's values for the device's experts. -/
theorem cbV_apply (I : Inputs m x rw ix W ws) (c : Dev nD) (r : Fin 1024) (j : Fin 4) : cbV m c (ix2 r j) = coeff x rw ix c r j := by
  unfold cbV
  rw [I.tokens, I.gates, I.routes]
  refine (pay5_apply (wMe c) ix _ r j).trans ?_
  unfold coeff wMe
  rw [expert_word]
  by_cases hh : ix (ix2 r 0) = BitVec.ofNat 32 (expert c j).val
  · rw [if_pos hh, (eq_bit _ _).2 hh]
    have h1 : FloatOps.sitofp (F := Ideal) FTy.f32 (BitVec.setWidth 32 1#1) = 1 := by
      show (((BitVec.setWidth 32 1#1).toInt : ℝ) : EReal) = 1
      rw [show (BitVec.setWidth 32 1#1).toInt = 1 from by decide]; simp
    rw [h1, one_mul]
    refine (Finset.sum_eq_single (expert c j) (fun e _ hne => ?_) (fun hn => absurd (Finset.mem_univ _) hn)).trans ?_
    · refine (pay3_apply x rw ix r e).trans ?_
      have : IntOp.cmpi .eq (BitVec.ofNat 32 e.val) (ix (ix2 r 0)) ≠ 1#1 := fun h => hne (expert_ne _ _ (((eq_bit _ _).1 h).trans hh))
      exact if_neg this
    · refine (pay3_apply x rw ix r _).trans ?_
      rw [(eq_bit _ _).2 hh.symm]; rfl
  · rw [if_neg hh]
    have h0 : IntOp.cmpi .eq (ix (ix2 r 0)) (BitVec.ofNat 32 (expert c j).val) = 0#1 := by
      have : IntOp.cmpi .eq (ix (ix2 r 0)) (BitVec.ofNat 32 (expert c j).val) ≠ 1#1 := fun h => hh ((eq_bit _ _).1 h)
      revert this; generalize IntOp.cmpi .eq (ix (ix2 r 0)) (BitVec.ofNat 32 (expert c j).val) = b; revert b; decide
    have h1 : FloatOps.sitofp (F := Ideal) FTy.f32 (BitVec.setWidth 32 0#1) = 0 := by
      show (((BitVec.setWidth 32 0#1).toInt : ℝ) : EReal) = 0
      rw [show (BitVec.setWidth 32 0#1).toInt = 0 from by decide]; simp
    rw [h0, h1, zero_mul]

end Cert.MoE

end
-- ==== Proof.Rows.lean ====
/-
What each device accumulates, sends and writes: the rows it packs come out at their places, and a chunk's rows end as the
shared expert's product and the eight devices' parts.
-/
module

public import proofs.«01_k».proof.Proof.Reads

@[expose] public section

noncomputable section

namespace Cert.MoE

open Cert.KernelIdeal Cert.KernelIdeal.Gen
open Idealize.ShloMosaic
open Idealize.ShloMosaic.TcCoe
open Idealize.SL Idealize.SL.Sem
open scoped BigOperators

variable {m : (ℓ : Loc nD τ sig) → Buf (Elt Ideal) ℓ} {x : FVec Ideal ⟨2, ![1024, 512]⟩ .f32} {rw : FVec Ideal ⟨2, ![512, 32]⟩ .f32}
  {ix : IVec ⟨2, ![1024, 1]⟩ 32} {W : FVec Ideal ⟨3, ![32, 512, 1024]⟩ .f32} {ws : FVec Ideal ⟨2, ![512, 1024]⟩ .f32}

/-- The rows of device `c`'s half that device `s` owns; the rows of its chunk whose owner is at place `t`. -/
def halfMask (ix : IVec ⟨2, ![1024, 1]⟩ 32) (c s : Dev nD) : Fin 512 → BitVec 1 :=
  ofDev (rows ix (512 * (c.val / 4)) 512 (half_le c)) (BitVec.ofNat 32 s.val)
/-- The rows of its chunk whose owner is at place `t`. -/
def chunkMask (ix : IVec ⟨2, ![1024, 1]⟩ 32) (c : Dev nD) (t : Fin 4) : Fin 128 → BitVec 1 :=
  ofPlace (rows ix (128 * c.val) 128 (chunk_le c)) (BitVec.ofNat 32 t.val)

/-- No half has more rows of a device, no chunk more rows of another place, than the pads hold. -/
structure Fits (ix : IVec ⟨2, ![1024, 1]⟩ 32) : Prop where
  half : ∀ c s : Dev nD, count (halfMask ix c s) ≤ 112
  chunk : ∀ (c : Dev nD) (t : Fin 4), t.val ≠ c.val % 4 → count (chunkMask ix c t) ≤ 64

/-- A device's part of a row, or nothing, by the row's owner: the part itself, as it is nothing for another owner's row. -/
theorem masked_part (c s : Dev nD) (r : Fin 512) (h : Fin 1024) :
    (if halfMask ix c s r = 1#1 then part x rw ix W s (halfRow c r) h else 0) = part x rw ix W s (halfRow c r) h := by
  by_cases hh : halfMask ix c s r = 1#1
  · rw [if_pos hh]
  · rw [if_neg hh]
    exact (part_zero x rw ix W s (halfRow c r) h fun e => hh ((eq_bit _ _).2 e)).symm

/-- The packed product of a slot is the part of the row packed there. -/
theorem slot_part (I : Inputs m x rw ix W ws) (c d : Dev nD) (X : Fin 512 → Fin 512 → EReal) (C : Fin 512 → Fin 4 → EReal)
    (hX : ∀ r k, X r k = xbV m c (ix2 (halfRow d r) k)) (hC : ∀ r j, C r j = cbV m c (ix2 (halfRow d r) j))
    (r : Fin 512) (q : Fin 112) (h : Fin 1024) (hr : halfMask ix d c r = 1#1) (hq : upto (halfMask ix d c) r = q.val + 1) :
    (∑ k : Fin 2048, ((∑ y : Fin 512, hot (halfMask ix d c) y q.val * X y ⟨k.val % 512, by omega⟩)
        * (∑ y : Fin 512, hot (halfMask ix d c) y q.val * C y ⟨k.val / 512, by omega⟩)) * ewV m c (ix2 k h))
      = part x rw ix W c (halfRow d r) h := by
  refine Finset.sum_congr rfl fun k _ => ?_
  have hq' : q.val < 2147483648 := by have := q.isLt; omega
  rw [pack (halfMask ix d c) (by decide) hq' hr hq (fun y => X y ⟨k.val % 512, by omega⟩),
    pack (halfMask ix d c) (by decide) hq' hr hq (fun y => C y ⟨k.val / 512, by omega⟩), hX, hC, xbV_apply I, cbV_apply I, ewV_apply I]

/-- The own rows of the own half, put back at their places. -/
theorem ac0V_apply (I : Inputs m x rw ix W ws) (N : Fits ix) (c : Dev nD) (r : Fin 512) (h : Fin 1024) :
    ac0V m c (ix2 r h) = part x rw ix W c (halfRow c r) h := by
  unfold ac0V
  rw [ixM_eq I]
  have hX : ∀ (r k : Fin 512), xbM.view.readAt (Elt Ideal) (Rect.unit (s := S1024x512) (k0_off5 c) S512x512.size (k0_off5_inb c)).toLoadRect (xbV m c) (ix2 r k)
      = xbV m c (ix2 (halfRow c r) k) := fun r k => read_rows (n := 512) (k := 512) xbM.view (xbV m c) _ _ (off5_own c) r k _ k.isLt
  have hC : ∀ (r : Fin 512) (j : Fin 4), cbM.view.readAt (Elt Ideal) (Rect.unit (s := S1024x4) (k0_off6 c) S512x4.size (k0_off6_inb c)).toLoadRect (cbV m c) (ix2 r j)
      = cbV m c (ix2 (halfRow c r) j) := fun r j => read_rows (n := 512) (k := 4) cbM.view (cbV m c) _ _ (off6_own c) r j _ j.isLt
  revert hX hC
  generalize xbM.view.readAt (Elt Ideal) (Rect.unit (s := S1024x512) (k0_off5 c) S512x512.size (k0_off5_inb c)).toLoadRect (xbV m c) = X
  generalize cbM.view.readAt (Elt Ideal) (Rect.unit (s := S1024x4) (k0_off6 c) S512x4.size (k0_off6_inb c)).toLoadRect (cbV m c) = C
  intro hX hC
  refine (pay15_apply (wMe c) (ewV m c) (rows ix (512 * (c.val / 4)) 512 (half_le c)) X C r h).trans ?_
  exact (unpack (halfMask ix c c) (by decide) (by decide) (N.half c c) _ (fun r => part x rw ix W c (halfRow c r) h) (fun r q hr hq =>
    slot_part I c c (fun r k => X (ix2 r k)) (fun r j => C (ix2 r j)) hX hC r q h hr hq) r).trans (masked_part c c r h)

/-- The other plane's row packed in a slot. -/
theorem saV_apply (I : Inputs m x rw ix W ws) (c : Dev nD) (r : Fin 512) (q : Fin 112) (h : Fin 1024)
    (hr : halfMask ix (pt c) c r = 1#1) (hq : upto (halfMask ix (pt c) c) r = q.val + 1) :
    saV m c (ix2 q h) = part x rw ix W c (halfRow (pt c) r) h := by
  unfold saV
  rw [ixO_eq I]
  have hX : ∀ (r k : Fin 512), xbM.view.readAt (Elt Ideal) (Rect.unit (s := S1024x512) (k0_off2 c) S512x512.size (k0_off2_inb c)).toLoadRect (xbV m c) (ix2 r k)
      = xbV m c (ix2 (halfRow (pt c) r) k) := fun r k => read_rows (n := 512) (k := 512) xbM.view (xbV m c) _ _ (off2_pt c) r k _ k.isLt
  have hC : ∀ (r : Fin 512) (j : Fin 4), cbM.view.readAt (Elt Ideal) (Rect.unit (s := S1024x4) (k0_off3 c) S512x4.size (k0_off3_inb c)).toLoadRect (cbV m c) (ix2 r j)
      = cbV m c (ix2 (halfRow (pt c) r) j) := fun r j => read_rows (n := 512) (k := 4) cbM.view (cbV m c) _ _ (off3_pt c) r j _ j.isLt
  revert hX hC
  generalize xbM.view.readAt (Elt Ideal) (Rect.unit (s := S1024x512) (k0_off2 c) S512x512.size (k0_off2_inb c)).toLoadRect (xbV m c) = X
  generalize cbM.view.readAt (Elt Ideal) (Rect.unit (s := S1024x4) (k0_off3 c) S512x4.size (k0_off3_inb c)).toLoadRect (cbV m c) = C
  intro hX hC
  refine (pay10_apply (wMe c) (ewV m c) (rows ix (512 * ((pt c).val / 4)) 512 (half_le (pt c))) X C q h).trans ?_
  exact slot_part I c (pt c) (fun r k => X (ix2 r k)) (fun r j => C (ix2 r j)) hX hC r q h hr hq

/-- The own half, with both planes' parts. -/
theorem acV_apply (I : Inputs m x rw ix W ws) (N : Fits ix) (c : Dev nD) (r : Fin 512) (h : Fin 1024) :
    acV m c (ix2 r h) = part x rw ix W c (halfRow c r) h + part x rw ix W (pt c) (halfRow c r) h := by
  unfold acV
  rw [ixM_eq I]
  refine (pay17_apply (wPt c) _ _ _ r h).trans ?_
  rw [ac0V_apply I N]
  congr 1
  refine (unpack (halfMask ix c (pt c)) (by decide) (by decide) (N.half c (pt c)) _ (fun r => part x rw ix W (pt c) (halfRow c r) h)
    (fun r q hr hq => ?_) r).trans (masked_part c (pt c) r h)
  have := saV_apply (h := h) I (pt c) r q (by rw [pt_pt]; exact hr) (by rw [pt_pt]; exact hq)
  rwa [pt_pt] at this

/-- What a device and its partner in the other plane add to a row of a chunk. -/
def pair (x : FVec Ideal ⟨2, ![1024, 512]⟩ .f32) (rw : FVec Ideal ⟨2, ![512, 32]⟩ .f32) (ix : IVec ⟨2, ![1024, 1]⟩ 32)
    (W : FVec Ideal ⟨3, ![32, 512, 1024]⟩ .f32) (s c : Dev nD) (r : Fin 128) (h : Fin 1024) : EReal :=
  part x rw ix W s (chunkRow c r) h + part x rw ix W (pt s) (chunkRow c r) h

/-- The accumulated rows of a chunk, at any device of its plane. -/
theorem acc_chunk (I : Inputs m x rw ix W ws) (N : Fits ix) (s c : Dev nD) (hp : s.val / 4 = c.val / 4) (r : Fin 128) (h : Fin 1024) :
    acV m s (ix2 (inHalf c r) h) = pair x rw ix W s c r h := by
  have e : halfRow s (inHalf c r) = chunkRow c r := by
    rw [← halfRow_inHalf]; apply Fin.ext; show 512 * (s.val / 4) + _ = 512 * (c.val / 4) + _; rw [hp]
  rw [acV_apply I N, e]; rfl

/-- Two devices of one place add nothing to a row whose owner is at another. -/
theorem pair_zero (s c : Dev nD) (r : Fin 128) (h : Fin 1024) (t : Fin 4) (ht : s.val % 4 = t.val) (hh : chunkMask ix c t r ≠ 1#1) :
    pair x rw ix W s c r h = 0 := by
  have hne : place (ix (ix2 (chunkRow c r) 0)) ≠ BitVec.ofNat 32 t.val := fun e => hh ((eq_bit _ _).2 e)
  unfold pair
  rw [part_zero x rw ix W s _ h fun e => hne (by unfold place; rw [e]; exact (place_dev s).trans (by rw [ht])),
    part_zero x rw ix W (pt s) _ h fun e => hne (by
      unfold place; rw [e]; refine (place_dev (pt s)).trans ?_
      have : (pt s).val % 4 = t.val := by rw [← ht]; show (s.val + 4) % 8 % 4 = s.val % 4; omega
      rw [this]), add_zero]

/-- What a chunk's device gains of a peer: what the peer and its partner add. -/
theorem gain (I : Inputs m x rw ix W ws) (N : Fits ix) (s c : Dev nD) (hp : s.val / 4 = c.val / 4) (t : Fin 4) (ht : s.val % 4 = t.val)
    (hne : t.val ≠ c.val % 4) (S : Fin 64 → EReal) (r : Fin 128) (h : Fin 1024)
    (hS : ∀ q, S q = ∑ y : Fin 128, hot (chunkMask ix c t) y q.val * acV m s (ix2 (inHalf c y) h)) :
    ∑ q : Fin 64, hot (chunkMask ix c t) r q.val * S q = pair x rw ix W s c r h := by
  refine (unpack (chunkMask ix c t) (by decide) (by decide) (N.chunk c t hne) S (fun r => pair x rw ix W s c r h) (fun r q hr hq => ?_) r).trans ?_
  · rw [hS, pack (chunkMask ix c t) (by decide) (by have := q.isLt; omega) hr hq (fun y => acV m s (ix2 (inHalf c y) h))]
    exact acc_chunk I N s c hp r h
  · by_cases hh : chunkMask ix c t r = 1#1
    · rw [if_pos hh]
    · rw [if_neg hh, pair_zero s c r h t ht hh]

end Cert.MoE

end
-- ==== Proof.Out.lean ====
/-
A device's result: the shared expert's product and the eight devices' parts of each row of its chunk.
-/
module

public import proofs.«01_k».proof.Proof.Rows

@[expose] public section

noncomputable section

namespace Cert.MoE

open Cert.KernelIdeal Cert.KernelIdeal.Gen
open Idealize.ShloMosaic
open Idealize.ShloMosaic.TcCoe
open Idealize.SL Idealize.SL.Sem
open scoped BigOperators

variable {m : (ℓ : Loc nD τ sig) → Buf (Elt Ideal) ℓ} {x : FVec Ideal ⟨2, ![1024, 512]⟩ .f32} {rw : FVec Ideal ⟨2, ![512, 32]⟩ .f32}
  {ix : IVec ⟨2, ![1024, 1]⟩ 32} {W : FVec Ideal ⟨3, ![32, 512, 1024]⟩ .f32} {ws : FVec Ideal ⟨2, ![512, 1024]⟩ .f32}

/-- A device's place in its plane. -/
def placeOf (c : Dev nD) : Fin 4 := ⟨c.val % 4, by omega⟩

/-- One place back around the plane is the device three places on; -/
theorem back1 (c : Dev nD) : back (wMp c) 1#32 = wMp (pl3 c) := by revert c; decide +kernel
/-- two places back is the device two places on; -/
theorem back2 (c : Dev nD) : back (wMp c) 2#32 = wMp (pl2 c) := by revert c; decide +kernel
/-- three places back is the device one place on. -/
theorem back3 (c : Dev nD) : back (wMp c) 3#32 = wMp (pl1 c) := by revert c; decide +kernel

/-- The next device is in the same plane, -/
theorem pl1_plane (c : Dev nD) : (pl1 c).val / 4 = c.val / 4 := by revert c; decide
/-- the one after it is, -/
theorem pl2_plane (c : Dev nD) : (pl2 c).val / 4 = c.val / 4 := by revert c; decide
/-- and the third is. -/
theorem pl3_plane (c : Dev nD) : (pl3 c).val / 4 = c.val / 4 := by revert c; decide
/-- The next device is at another place, -/
theorem pl1_ne (c : Dev nD) : (placeOf (pl1 c)).val ≠ c.val % 4 := by revert c; decide
/-- the one after it is, -/
theorem pl2_ne (c : Dev nD) : (placeOf (pl2 c)).val ≠ c.val % 4 := by revert c; decide
/-- and the third is. -/
theorem pl3_ne (c : Dev nD) : (placeOf (pl3 c)).val ≠ c.val % 4 := by revert c; decide

/-- The chunk's rows of a peer's accumulated half, as the peer reads them. -/
theorem read_acc (A : FVec Ideal S512x1024 .bf16) (c : Dev nD) {off : Fin 2 → ℕ}
    (inb : ∀ a, off a + (![128, 1024] : Fin 2 → ℕ) a ≤ (![512, 1024] : Fin 2 → ℕ) a) (ho : off = ![128 * (c.val % 4), 0]) (y : Fin 128) (h : Fin 1024) :
    acM.view.readAt (Elt Ideal) (Rect.unit (s := ⟨2, ![512, 1024]⟩) off ![128, 1024] inb).toLoadRect A (ix2 y h) = A (ix2 (inHalf c y) h) :=
  read_rows (n := 128) (k := 1024) acM.view A _ inb ho y h _ h.isLt

/-- A slot of the first send buffer: the packed rows of the receiver's chunk. -/
theorem sb1V_apply (I : Inputs m x rw ix W ws) (c : Dev nD) (q : Fin 64) (h : Fin 1024) :
    sb1V m (pl3 c) (ix3 0 q h) = ∑ y : Fin 128, hot (chunkMask ix c (placeOf (pl3 c))) y q.val * acV m (pl3 c) (ix2 (inHalf c y) h) := by
  unfold sb1V
  rw [ixS1_eq I]
  refine (pay22_apply (wMp (pl3 c)) (rows ix (128 * c.val) 128 (chunk_le c)) _ q h).trans (Finset.sum_congr rfl fun y _ => ?_)
  exact congrArg (hot (chunkMask ix c (placeOf (pl3 c))) y q.val * ·) (read_acc (acV m (pl3 c)) c _ (off8_pl3 c) y h)

/-- A slot of the second send buffer, likewise. -/
theorem sb2V_apply (I : Inputs m x rw ix W ws) (c : Dev nD) (q : Fin 64) (h : Fin 1024) :
    sb2V m (pl2 c) (ix3 0 q h) = ∑ y : Fin 128, hot (chunkMask ix c (placeOf (pl2 c))) y q.val * acV m (pl2 c) (ix2 (inHalf c y) h) := by
  unfold sb2V
  rw [ixS2_eq I]
  refine (pay26_apply (wMp (pl2 c)) (rows ix (128 * c.val) 128 (chunk_le c)) _ q h).trans (Finset.sum_congr rfl fun y _ => ?_)
  exact congrArg (hot (chunkMask ix c (placeOf (pl2 c))) y q.val * ·) (read_acc (acV m (pl2 c)) c _ (off8_pl2 c) y h)

/-- A slot of the third send buffer, likewise. -/
theorem sb3V_apply (I : Inputs m x rw ix W ws) (c : Dev nD) (q : Fin 64) (h : Fin 1024) :
    sb3V m (pl1 c) (ix3 0 q h) = ∑ y : Fin 128, hot (chunkMask ix c (placeOf (pl1 c))) y q.val * acV m (pl1 c) (ix2 (inHalf c y) h) := by
  unfold sb3V
  rw [ixS3_eq I]
  refine (pay31_apply (wMp (pl1 c)) (rows ix (128 * c.val) 128 (chunk_le c)) _ q h).trans (Finset.sum_congr rfl fun y _ => ?_)
  exact congrArg (hot (chunkMask ix c (placeOf (pl1 c))) y q.val * ·) (read_acc (acV m (pl1 c)) c _ (off8_pl1 c) y h)

/-- The first unpacking matrix: the placement of the rows whose owner is at the first sender's place. -/
theorem u1V_apply (I : Inputs m x rw ix W ws) (c : Dev nD) (r : Fin 128) (q : Fin 64) :
    u1V m c (ix2 r q) = hot (chunkMask ix c (placeOf (pl3 c))) r q.val := by
  unfold u1V g0 g1 g2
  rw [ixC_eq I]
  refine (pay37_apply (wMp c) (rows ix (128 * c.val) 128 (chunk_le c)) r q).trans ?_
  rw [back1]; rfl

/-- The second unpacking matrix, for the second sender. -/
theorem u2V_apply (I : Inputs m x rw ix W ws) (c : Dev nD) (r : Fin 128) (q : Fin 64) :
    u2V m c (ix2 r q) = hot (chunkMask ix c (placeOf (pl2 c))) r q.val := by
  unfold u2V g0 g1 g2
  rw [ixC_eq I]
  refine (pay40_apply (wMp c) (rows ix (128 * c.val) 128 (chunk_le c)) r q).trans ?_
  rw [back2]; rfl

/-- The third unpacking matrix, for the third sender. -/
theorem u3V_apply (I : Inputs m x rw ix W ws) (c : Dev nD) (r : Fin 128) (q : Fin 64) :
    u3V m c (ix2 r q) = hot (chunkMask ix c (placeOf (pl1 c))) r q.val := by
  unfold u3V g0 g1 g2
  rw [ixC_eq I]
  refine (pay42_apply (wMp c) (rows ix (128 * c.val) 128 (chunk_le c)) r q).trans ?_
  rw [back3]; rfl

/-- Before the peers' rows are added: the shared expert's product and what the device and its partner add. -/
theorem o0V_apply (I : Inputs m x rw ix W ws) (N : Fits ix) (c : Dev nD) (r : Fin 128) (h : Fin 1024) :
    o0V m c (ix2 r h) = (∑ d : Fin 512, x (ix2 (chunkRow c r) d) * ws (ix2 d h)) + pair x rw ix W c c r h := by
  unfold o0V
  rw [I.tokens, I.shared, ← acc_chunk I N c c rfl r h]
  refine (pay32_apply _ ws _ r h).trans ?_
  refine congrArg₂ (· + ·) (Finset.sum_congr rfl fun d _ => ?_) (read_acc (acV m c) c _ (off10_own c) r h)
  exact congrArg (· * ws (ix2 d h)) (read_rows (n := 128) (k := 512) aM.view x _ _ (off9_own c) r d _ d.isLt)

/-- The four places' pairs are the eight devices' parts. -/
theorem pairs_sum (f : Dev nD → EReal) (c : Dev nD) :
    (f c + f (pt c)) + (f (pl3 c) + f (pt (pl3 c))) + (f (pl2 c) + f (pt (pl2 c))) + (f (pl1 c) + f (pt (pl1 c))) = ∑ d : Dev nD, f d := by
  have e : ∑ d : Dev nD, f d = f 0 + f 1 + f 2 + f 3 + f 4 + f 5 + f 6 + f 7 := Fin.sum_univ_eight f
  rw [e]
  have hs : ∀ c : Fin 8, c = 0 ∨ c = 1 ∨ c = 2 ∨ c = 3 ∨ c = 4 ∨ c = 5 ∨ c = 6 ∨ c = 7 := by decide
  rcases hs c with h | h | h | h | h | h | h | h <;> subst h
  · show (f 0 + f 4) + (f 3 + f 7) + (f 2 + f 6) + (f 1 + f 5) = _; ac_rfl
  · show (f 1 + f 5) + (f 0 + f 4) + (f 3 + f 7) + (f 2 + f 6) = _; ac_rfl
  · show (f 2 + f 6) + (f 1 + f 5) + (f 0 + f 4) + (f 3 + f 7) = _; ac_rfl
  · show (f 3 + f 7) + (f 2 + f 6) + (f 1 + f 5) + (f 0 + f 4) = _; ac_rfl
  · show (f 4 + f 0) + (f 7 + f 3) + (f 6 + f 2) + (f 5 + f 1) = _; ac_rfl
  · show (f 5 + f 1) + (f 4 + f 0) + (f 7 + f 3) + (f 6 + f 2) = _; ac_rfl
  · show (f 6 + f 2) + (f 5 + f 1) + (f 4 + f 0) + (f 7 + f 3) = _; ac_rfl
  · show (f 7 + f 3) + (f 6 + f 2) + (f 5 + f 1) + (f 4 + f 0) = _; ac_rfl

/-- What a device writes: the shared expert's product and all the experts' addends, at its chunk's rows. -/
theorem outV_apply (hx : Finite x) (hr : Finite rw) (I : Inputs m x rw ix W ws) (N : Fits ix) (c : Dev nD) (r : Fin 128) (h : Fin 1024) :
    outV m c (ix2 r h)
      = (∑ d : Fin 512, x (ix2 (chunkRow c r) d) * ws (ix2 d h)) + ∑ e : Fin 32, term x rw ix W (chunkRow c r) h e := by
  have g1 : ∑ q : Fin 64, u1V m c (ix2 r q) * sb1V m (pl3 c) (ix3 0 q h) = pair x rw ix W (pl3 c) c r h := by
    rw [Finset.sum_congr rfl fun q _ => by rw [u1V_apply I]]
    exact gain I N (pl3 c) c (pl3_plane c) (placeOf (pl3 c)) rfl (pl3_ne c) _ r h (fun q => sb1V_apply I c q h)
  have g2 : ∑ q : Fin 64, u2V m c (ix2 r q) * sb2V m (pl2 c) (ix3 0 q h) = pair x rw ix W (pl2 c) c r h := by
    rw [Finset.sum_congr rfl fun q _ => by rw [u2V_apply I]]
    exact gain I N (pl2 c) c (pl2_plane c) (placeOf (pl2 c)) rfl (pl2_ne c) _ r h (fun q => sb2V_apply I c q h)
  have g3 : ∑ q : Fin 64, u3V m c (ix2 r q) * sb3V m (pl1 c) (ix3 0 q h) = pair x rw ix W (pl1 c) c r h := by
    rw [Finset.sum_congr rfl fun q _ => by rw [u3V_apply I]]
    exact gain I N (pl1 c) c (pl1_plane c) (placeOf (pl1 c)) rfl (pl1_ne c) _ r h (fun q => sb3V_apply I c q h)
  unfold outV
  refine (pay46_apply _ _ _ r h).trans ?_
  rw [g3]
  unfold o2V
  refine (congrArg (· + pair x rw ix W (pl1 c) c r h) (pay45_apply _ _ _ r h)).trans ?_
  rw [g2]
  unfold o1V
  refine (congrArg (fun z => z + pair x rw ix W (pl2 c) c r h + pair x rw ix W (pl1 c) c r h) (pay43_apply _ _ _ r h)).trans ?_
  rw [g1, o0V_apply I N, ← sum_part x rw ix W hx hr (chunkRow c r) h]
  refine Eq.trans ?_ (congrArg ((∑ d : Fin 512, x (ix2 (chunkRow c r) d) * ws (ix2 d h)) + ·) (pairs_sum (fun d => part x rw ix W d (chunkRow c r) h) c))
  simp only [← add_assoc]
  unfold pair
  simp only [← add_assoc]

end Cert.MoE

end
-- ==== Proof.Ref.lean ====
/-
What the reference computes: at each row and column, the shared expert's product and all the experts' addends.
-/
module

public import proofs.«01_k».proof.Proof.Softmax
public import proofs.«01_k».proof.Proof.Gen.ReferenceIdeal.Run

@[expose] public section

noncomputable section

namespace Cert.MoE

open Cert.ReferenceIdeal Cert.ReferenceIdeal.Gen
open Idealize.ShloMosaic
open Idealize.ShloMosaic.TcCoe
open Idealize.SL Idealize.SL.Sem
open scoped BigOperators

/-- The reference's result, of its five arguments. -/
def refOut (x : FVec Ideal S1024x512 .f32) (rw : FVec Ideal S512x32 .f32) (ix : IVec S1024x1 32) (W : FVec Ideal S32x512x1024 .f32)
    (ws : FVec Ideal S512x1024 .f32) : FVec Ideal S1024x1024 .f32 :=
  addf (Host.dotGeneral dot_S1024x512_S512x1024_S1024x1024_1_0_0_1_n_n none x ws) (Host.reduceAdd (select (broadcastInDim S1024x32x1024 ![0, 1, 2] bcast_S1024x32x1_S1024x32x1024_0_1_2 (broadcastInDim S1024x32x1 ![0, 1] bcast_S1024x32_S1024x32x1_0_1 (cmpi .eq (broadcastInDim S1024x32 ![0, 1] bcast_S1024x1_S1024x32_0_1 ix) (broadcastInDim S1024x32 ![0, 1] bcast_S1x32_S1024x32_0_1 (broadcastInDim S1x32 ![1] bcast_S32_S1x32_1 (iotaInDim S32 32 0)))))) (mulf (broadcastInDim S1024x32x1024 ![0, 1, 2] bcast_S1024x32x1_S1024x32x1024_0_1_2 (broadcastInDim S1024x32x1 ![0, 1] bcast_S1024x32_S1024x32x1_0_1 (Host.divf (Host.exp (subf (Host.dotGeneral dot_S1024x512_S512x32_S1024x32_1_0_0_1_n_n none x rw) (broadcastInDim S1024x32 ![0, 1] bcast_S1024x1_S1024x32_0_1 (broadcastInDim S1024x1 ![0] bcast_S1024_S1024x1_0 (Host.reduce FloatOps.maximumf (Host.dotGeneral dot_S1024x512_S512x32_S1024x32_1_0_0_1_n_n none x rw) (constant S_ .f32 0xFF800000#32) reducesTo_S1024x32_S1024_d1 h_S_))))) (broadcastInDim S1024x32 ![0, 1] bcast_S1024x1_S1024x32_0_1 (broadcastInDim S1024x1 ![0] bcast_S1024_S1024x1_0 (Host.reduceAdd (Host.exp (subf (Host.dotGeneral dot_S1024x512_S512x32_S1024x32_1_0_0_1_n_n none x rw) (broadcastInDim S1024x32 ![0, 1] bcast_S1024x1_S1024x32_0_1 (broadcastInDim S1024x1 ![0] bcast_S1024_S1024x1_0 (Host.reduce FloatOps.maximumf (Host.dotGeneral dot_S1024x512_S512x32_S1024x32_1_0_0_1_n_n none x rw) (constant S_ .f32 0xFF800000#32) reducesTo_S1024x32_S1024_d1 h_S_))))) (constant S_ .f32 0x00000000#32) reducesTo_S1024x32_S1024_d1 h_S_)))))) (Host.dotGeneral dot_S1024x512_S32x512x1024_S1024x32x1024_1_1_0_02_n_n none x W)) (broadcastInDim S1024x32x1024 ![] bcast_S_S1024x32x1024 (id (constant S_ .f32 0x00000000#32)))) (constant S_ .f32 0x00000000#32) reducesTo_S1024x32x1024_S1024x1024_d1 h_S_)

/-- Read at a row and a column. -/
theorem refOut_apply (x : FVec Ideal S1024x512 .f32) (rw : FVec Ideal S512x32 .f32) (ix : IVec S1024x1 32) (W : FVec Ideal S32x512x1024 .f32)
    (ws : FVec Ideal S512x1024 .f32) (r h : Fin 1024) :
    refOut x rw ix W ws (ix2 r h) = (∑ d : Fin 512, x (ix2 r d) * ws (ix2 d h)) + ∑ e : Fin 32, term x rw ix W r h e := by
  pointwise [refOut]
  refine congrArg (_ + ·) (Finset.sum_congr rfl fun e _ => ?_)
  unfold term
  by_cases hh : ix (ix2 r 0) = BitVec.ofNat 32 e.val
  · rw [if_pos hh, (eq_bit _ _).2 hh]; rfl
  · rw [if_neg hh]
    refine (if_neg fun h1 => hh ((eq_bit _ _).1 h1)).trans ?_
    show Ideal.ofBits FTy.f32 0#32 = 0
    simp [Ideal.ofBits, Ideal.ieee]

end Cert.MoE

end
-- ==== Proof.Capacity.lean ====
/-
The precondition read as what the kernel needs: no half and no chunk has more rows for a device than the pads hold, and the
tokens and the gate's weights are numbers.
-/
module

public import proofs.«01_k».proof.Proof.Rows
public import proofs.«01_k».proof.Pre_capacity_KernelIdeal
public import proofs.«01_k».proof.Pre_capacity_ReferenceIdeal
public import Idealize.ShloMosaic.Lib.IndicatorCount

@[expose] public section

noncomputable section

namespace Cert.MoE

open Idealize.ShloMosaic
open scoped BigOperators

/-- Division and remainder by four are the same on every unit. -/
theorem div_four (u : ArithUnit) (x : BitVec 32) : IntOp.divsi u x 4#32 = x.sdiv 4#32 :=
  if_neg fun h => h.elim (by decide) fun h => absurd h.2 (by decide)
/-- and so is the remainder. -/
theorem rem_four (u : ArithUnit) (x : BitVec 32) : IntOp.remsi u x 4#32 = x.srem 4#32 :=
  if_neg fun h => h.elim (by decide) fun h => absurd h.2 (by decide)

/-- A word's sign, by cases and as the difference of two comparisons. -/
theorem sign_word (x : BitVec 32) :
    (if x = 0 then (0 : BitVec 32) else if x.msb = true then -1 else 1)
      = IntOp.subi (BitVec.setWidth 32 (IntOp.cmpi CmpIPredicate.sgt x 0#32)) (BitVec.setWidth 32 (IntOp.cmpi CmpIPredicate.slt x 0#32)) := by
  by_cases h0 : x = 0
  · subst h0; decide
  · rw [if_neg h0]
    have e1 : IntOp.cmpi CmpIPredicate.slt x 0#32 = BitVec.ofBool (decide (x.toInt < 0)) := by
      show BitVec.ofBool (BitVec.slt x 0#32) = _
      rw [BitVec.slt]; rfl
    have e2 : IntOp.cmpi CmpIPredicate.sgt x 0#32 = BitVec.ofBool (decide (0 < x.toInt)) := by
      show BitVec.ofBool (BitVec.slt 0#32 x) = _
      rw [BitVec.slt]; rfl
    rw [e1, e2, BitVec.msb_eq_toInt]
    have hne : x.toInt ≠ 0 := fun h => h0 (BitVec.toInt_inj.1 (h.trans (by decide)))
    rcases lt_or_gt_of_ne hne with h | h
    · rw [decide_eq_true h, decide_eq_false (not_lt.2 h.le)]; decide
    · rw [decide_eq_true h, decide_eq_false (not_lt.2 h.le)]; decide

/-- The host's floor division by four, in its scalar steps. -/
def hostFd (x : BitVec 32) : BitVec 32 :=
  Scalar.select
    (IntOp.andi
      (IntOp.cmpi CmpIPredicate.ne (if x = 0 then (0 : BitVec 32) else if x.msb = true then -1 else 1)
        (if (4#32 : BitVec 32) = 0 then (0 : BitVec 32) else if (4#32 : BitVec 32).msb = true then -1 else 1))
      (IntOp.cmpi CmpIPredicate.ne (IntOp.remsi ArithUnit.host x 4#32) 0#32))
    (IntOp.subi (IntOp.divsi ArithUnit.host x 4#32) 1#32)
    (IntOp.divsi ArithUnit.host x 4#32)

/-- It is the kernel's. -/
theorem hostFd_eq (x : BitVec 32) : hostFd x = fd x := by
  have h4 : (if (4#32 : BitVec 32) = 0 then (0 : BitVec 32) else if (4#32 : BitVec 32).msb = true then -1 else 1) = 1#32 := by decide
  unfold hostFd fd
  rw [sign_word, h4, div_four, rem_four, div_four, rem_four]

/-- The order of two small numbers read as words. -/
theorem le_bit (a b : ℕ) (ha : a < 2147483648) (hb : b < 2147483648) :
    IntOp.cmpi .sle (BitVec.ofNat 32 a) (BitVec.ofNat 32 b) = 1#1 ↔ a ≤ b := by
  have e : IntOp.cmpi .sle (BitVec.ofNat 32 a) (BitVec.ofNat 32 b) = BitVec.ofBool (decide (a ≤ b)) := by
    show BitVec.ofBool (BitVec.sle (BitVec.ofNat 32 a) (BitVec.ofNat 32 b)) = _
    rw [BitVec.sle, word_int a ha, word_int b hb]; simp
  rw [e, bool_bit, decide_eq_true_iff]

/-- A count of rows, as the host sums it. -/
theorem count_word {n : ℕ} (P Q : Fin n → BitVec 1) (h : ∀ x, Q x = P x) :
    Finset.fold IntOp.addi (0#32) (fun x => BitVec.setWidth 32 (Q x)) Finset.univ = BitVec.ofNat 32 (count P) := by
  rw [show Q = P from funext h]
  exact IndicatorCount.fold_addi_setWidth_eq_card P Finset.univ

/-- No more rows are masked than there are. -/
theorem count_le {n : ℕ} (P : Fin n → BitVec 1) : count P ≤ n := (Finset.card_filter_le _ _).trans (by simp)

/-- A chunk's own place is the only one exempt. -/
theorem exempt : ∀ (p : Fin 8) (t : Fin 4), t.val ≠ p.val % 4 →
    IntOp.cmpi CmpIPredicate.eq (IntOp.remsi ArithUnit.host (BitVec.ofNat 32 p.val) 4#32) (BitVec.ofNat 32 t.val) = 0#1 := by
  decide +kernel

/-- A number whose absolute value is below infinity is a real number. -/
theorem real_of_lt (a : EReal) (h : BitVec.ofBool (decide (FloatOps.absf (F := Ideal) (φ := FTy.f32) a < Ideal.ofBits FTy.f32 2139095040#32)) = 1#1) : ∃ b : ℝ, a = b := by
  rw [bool_bit, decide_eq_true_iff] at h
  have ht : Ideal.ofBits FTy.f32 2139095040#32 = ⊤ := by simp [Ideal.ofBits, Ideal.ieee]
  rw [ht] at h
  have h' : max a (-a) < ⊤ := h
  have h1 : a ≠ ⊤ := ne_of_lt ((le_max_left _ _).trans_lt h')
  have h2 : a ≠ ⊥ := fun e => by subst e; simp at h'
  exact ⟨a.toReal, (EReal.coe_toReal h1 h2).symm⟩

/-- The side conditions of the precondition's operations, read of the kernel's blocks, -/
theorem facts_kernel : Cert.Pre_capacity_KernelIdeal.Facts := by
  constructor <;> decide
/-- and of the reference's arrays. -/
theorem facts_reference : Cert.Pre_capacity_ReferenceIdeal.Facts := by
  constructor <;> decide

section
attribute [local instance] facts_kernel
open Cert.Pre_capacity_KernelIdeal

variable (x : FVec Ideal S1024x512 .f32) (rw : FVec Ideal S512x32 .f32) (ix : IVec S1024x1 32) (W : FVec Ideal S4x512x1024 .f32) (ws : FVec Ideal S512x1024 .f32)

/-- The first part, at a half and a device: the half's rows of that device are counted and compared with the pad. -/
theorem halves_apply (c s : Fin 8) :
    (fn (F := Ideal) x rw ix W ws).1 (ix2 (⟨c.val / 4, by omega⟩ : Fin 2) s) = IntOp.cmpi .sle (BitVec.ofNat 32 (count (halfMask ix c s))) (BitVec.ofNat 32 112) := by
  pointwise [fn, fn_part1, fn_floor_divide, fn_where]
  refine congrArg (IntOp.cmpi .sle · 112#32) (count_word (halfMask ix c s) _ fun y => ?_)
  refine congrArg (IntOp.cmpi .eq · (BitVec.ofNat 32 s.val)) ((hostFd_eq _).trans (congrArg (fun j => fd (ix (ix2 j 0))) (Fin.ext ?_)))
  show c.val / 4 * 512 + y.val = 512 * (c.val / 4) + y.val
  omega

/-- The second part, at a chunk and a place: the chunk's rows of that place are counted and compared, unless the place is its own. -/
theorem chunks_apply (c : Fin 8) (t : Fin 4) :
    (fn (F := Ideal) x rw ix W ws).2.1 (ix2 c t)
      = IntOp.ori (IntOp.cmpi .sle (BitVec.ofNat 32 (count (chunkMask ix c t))) (BitVec.ofNat 32 64))
          (IntOp.cmpi CmpIPredicate.eq (IntOp.remsi ArithUnit.host (BitVec.ofNat 32 c.val) 4#32) (BitVec.ofNat 32 t.val)) := by
  pointwise [fn, fn_part1, fn_floor_divide, fn_where]
  refine congrArg₂ IntOp.ori (congrArg (IntOp.cmpi .sle · 64#32) (count_word (chunkMask ix c t) _ fun y => ?_)) rfl
  refine congrArg (IntOp.cmpi .eq · (BitVec.ofNat 32 t.val)) ?_
  refine (rem_four _ _).trans ((congrArg (fun z : BitVec 32 => z.srem 4#32) ((hostFd_eq _).trans (congrArg (fun j => fd (ix (ix2 j 0))) (Fin.ext ?_)))).trans
    (rem_four ArithUnit.vector _).symm)
  show c.val * 128 + y.val = 128 * c.val + y.val
  omega

/-- The other two parts compare absolute values with infinity. -/
theorem tokens_apply (r : Fin 1024) (d : Fin 512) : (fn (F := Ideal) x rw ix W ws).2.2.1 (ix2 r d)
    = BitVec.ofBool (decide (FloatOps.absf (F := Ideal) (φ := FTy.f32) (x (ix2 r d)) < Ideal.ofBits FTy.f32 2139095040#32)) := by
  pointwise [fn, fn_part1, fn_floor_divide, fn_where]
/-- The gate's weights are compared with infinity likewise. -/
theorem gates_apply (d : Fin 512) (e : Fin 32) : (fn (F := Ideal) x rw ix W ws).2.2.2 (ix2 d e)
    = BitVec.ofBool (decide (FloatOps.absf (F := Ideal) (φ := FTy.f32) (rw (ix2 d e)) < Ideal.ofBits FTy.f32 2139095040#32)) := by
  pointwise [fn, fn_part1, fn_floor_divide, fn_where]

/-- A pair of indices is what an index of a matrix is. -/
theorem pair_ix {n k : ℕ} (j : (⟨2, ![n, k]⟩ : Shape).Idx) : ∃ (a : Fin n) (b : Fin k), j = ix2 a b :=
  ⟨j 0, j 1, funext fun a => match a with | 0 => rfl | 1 => rfl⟩

/-- The routes fit the pads. -/
theorem fits_of (h1 : (fn (F := Ideal) x rw ix W ws).1 = fun _ => 1#1) (h2 : (fn (F := Ideal) x rw ix W ws).2.1 = fun _ => 1#1) : Fits ix where
  half c s := by
    have h := (halves_apply x rw ix W ws c s).symm.trans (congrFun h1 _)
    exact (le_bit _ _ (by have := count_le (halfMask ix c s); omega) (by decide)).1 h
  chunk c t hne := by
    have h := (chunks_apply x rw ix W ws c t).symm.trans (congrFun h2 _)
    rw [exempt c t hne] at h
    have h' : IntOp.cmpi .sle (BitVec.ofNat 32 (count (chunkMask ix c t))) (BitVec.ofNat 32 64) = 1#1 := by
      revert h; generalize IntOp.cmpi .sle (BitVec.ofNat 32 (count (chunkMask ix c t))) (BitVec.ofNat 32 64) = b; revert b; decide
    exact (le_bit _ _ (by have := count_le (chunkMask ix c t); omega) (by decide)).1 h'

/-- Under the precondition the tokens are numbers, -/
theorem tokens_real (h : (fn (F := Ideal) x rw ix W ws).2.2.1 = fun _ => 1#1) : Finite x := fun j => by
  obtain ⟨a, b, rfl⟩ := pair_ix j
  exact real_of_lt _ ((tokens_apply x rw ix W ws a b).symm.trans (congrFun h _))

/-- and so are the gate's weights. -/
theorem gates_real (h : (fn (F := Ideal) x rw ix W ws).2.2.2 = fun _ => 1#1) : Finite rw := fun j => by
  obtain ⟨a, b, rfl⟩ := pair_ix j
  exact real_of_lt _ ((gates_apply x rw ix W ws a b).symm.trans (congrFun h _))
end

end Cert.MoE

end
-- ==== Proof.Equation.lean ====
/-
The equation: a device's result is its block of the reference's.
-/
module

public import proofs.«01_k».proof.Proof.Frames
public import proofs.«01_k».proof.Proof.Out
public import proofs.«01_k».proof.Proof.Ref
public import proofs.«01_k».proof.Proof.Capacity

@[expose] public section

noncomputable section

namespace Cert.MoE

open Cert.KernelIdeal Cert.KernelIdeal.Gen
open Idealize.ShloMosaic
open Idealize.ShloMosaic.TcCoe
open Idealize.SL Idealize.SL.Sem
open scoped BigOperators

/-! ## The blocks are the arrays -/

/-- The token window is the whole array, -/
theorem whole0 (f : main_arg0.ty.Contents (Elt Ideal)) : (win0_0.blk (0 : Fin 1)).view.read (Elt Ideal) f = f :=
  Memref.read_access_unit_zero (Elt Ideal) main_arg0 (off := fun a => (win0_0.index (0 : Fin 1)) a * main_arg0.ty.shape.size a)
    (funext fun a => by fin_cases a <;> decide) (fun a => by fin_cases a <;> decide) f
/-- the gate's window is, -/
theorem whole1 (f : main_arg1.ty.Contents (Elt Ideal)) : (win0_1.blk (0 : Fin 1)).view.read (Elt Ideal) f = f :=
  Memref.read_access_unit_zero (Elt Ideal) main_arg1 (off := fun a => (win0_1.index (0 : Fin 1)) a * main_arg1.ty.shape.size a)
    (funext fun a => by fin_cases a <;> decide) (fun a => by fin_cases a <;> decide) f
/-- the routes' window is, -/
theorem whole2 (f : main_arg2.ty.Contents (Elt Ideal)) : (win0_2.blk (0 : Fin 1)).view.read (Elt Ideal) f = f :=
  Memref.read_access_unit_zero (Elt Ideal) main_arg2 (off := fun a => (win0_2.index (0 : Fin 1)) a * main_arg2.ty.shape.size a)
    (funext fun a => by fin_cases a <;> decide) (fun a => by fin_cases a <;> decide) f
/-- the experts' window is, -/
theorem whole3 (f : main_arg3.ty.Contents (Elt Ideal)) : (win0_3.blk (0 : Fin 1)).view.read (Elt Ideal) f = f :=
  Memref.read_access_unit_zero (Elt Ideal) main_arg3 (off := fun a => (win0_3.index (0 : Fin 1)) a * main_arg3.ty.shape.size a)
    (funext fun a => by fin_cases a <;> decide) (fun a => by fin_cases a <;> decide) f
/-- the shared expert's window is, -/
theorem whole4 (f : main_arg4.ty.Contents (Elt Ideal)) : (win0_4.blk (0 : Fin 1)).view.read (Elt Ideal) f = f :=
  Memref.read_access_unit_zero (Elt Ideal) main_arg4 (off := fun a => (win0_4.index (0 : Fin 1)) a * main_arg4.ty.shape.size a)
    (funext fun a => by fin_cases a <;> decide) (fun a => by fin_cases a <;> decide) f
/-- and the result's window is. -/
theorem whole5 (f : main_v1.ty.Contents (Elt Ideal)) : (win0_5.blk (0 : Fin 1)).view.read (Elt Ideal) f = f :=
  Memref.read_access_unit_zero (Elt Ideal) main_v1 (off := fun a => (win0_5.index (0 : Fin 1)) a * main_v1.ty.shape.size a)
    (funext fun a => by fin_cases a <;> decide) (fun a => by fin_cases a <;> decide) f

/-- The result array ends at the value the device computed. -/
theorem final_out (m : (ℓ : Loc nD τ sig) → Buf (Elt Ideal) ℓ) (c : Dev nD) : final m c (5 : Fin 6) = outV m c := by
  have h : (win0_5.blk (0 : Fin 1)).view.read (Elt Ideal) (final m c (5 : Fin 6)) = outV m c := by
    unfold final
    rw [show cfg0.N = ((0 : Fin 1) : Fin cfg0.N).val + 1 from rfl, (dats m 0 c).arrAt_succ (5 : Fin 6) (0 : Fin 1)]
    rw [show (cfg0.win (5 : Fin 6)).flush (0 : Fin 1) = true from by decide, if_pos rfl]
    exact View.read_write_univ _ _
  exact (whole5 _).symm.trans h

/-! ## The launch's arrays -/

variable {m : (ℓ : Loc nD τ sig) → Buf (Elt Ideal) ℓ} {x : FVec Ideal ⟨2, ![1024, 512]⟩ .f32} {rw : FVec Ideal ⟨2, ![512, 32]⟩ .f32}
  {ix : IVec ⟨2, ![1024, 1]⟩ 32} {W : FVec Ideal ⟨3, ![32, 512, 1024]⟩ .f32} {ws : FVec Ideal ⟨2, ![512, 1024]⟩ .f32}

/-- A launch whose devices hold the arrays, and the experts' weights in eight blocks, gives the kernel its inputs. -/
theorem inputs_of (h0 : ∀ c : Dev nD, m ((c : Thread nD τ).loc main_arg0) = x) (h1 : ∀ c : Dev nD, m ((c : Thread nD τ).loc main_arg1) = rw)
    (h2 : ∀ c : Dev nD, m ((c : Thread nD τ).loc main_arg2) = ix)
    (h3 : ∀ c : Dev nD, m ((c : Thread nD τ).loc main_arg3) = Layout.block ⟨3, ![4, 512, 1024]⟩ ⟨3, ![32, 512, 1024]⟩ 0 8 c W)
    (h4 : ∀ c : Dev nD, m ((c : Thread nD τ).loc main_arg4) = ws) : Inputs m x rw ix W ws where
  tokens c := (whole0 _).trans (h0 c)
  gates c := (whole1 _).trans (h1 c)
  routes c := (whole2 _).trans (h2 c)
  weights c j d h := by
    refine (congrFun ((whole3 _).trans (h3 c)) (ix3 j d h)).trans (congrArg W (funext fun a => Fin.ext ?_))
    match a with
    | 0 => show c.val * 4 + j.val = 4 * c.val + j.val; omega
    | 1 => rfl
    | 2 => rfl
  shared c := (whole4 _).trans (h4 c)

/-- A device's result is its block of the reference's. -/
theorem out_block (hx : Finite x) (hr : Finite rw) (I : Inputs m x rw ix W ws) (N : Fits ix) (c : Dev nD) :
    outV m c = Layout.block ⟨2, ![128, 1024]⟩ ⟨2, ![1024, 1024]⟩ 0 8 c (refOut x rw ix W ws) := by
  funext i
  obtain ⟨r, h, rfl⟩ := pair_ix i
  refine (outV_apply hx hr I N c r h).trans ((refOut_apply x rw ix W ws (chunkRow c r) h).symm.trans ?_)
  refine congrArg (refOut x rw ix W ws) (funext fun a => Fin.ext ?_)
  match a with
  | 0 => show 128 * c.val + r.val = c.val * 128 + r.val; omega
  | 1 => rfl

/-! ## The claims -/

/-- The kernel's result is the reference's, in the ideal numbers, whenever the routes fit the pads and the scores' operands are finite. -/
theorem algebraic : Cert.algebraic_KernelIdeal_ReferenceIdeal_pre_capacity_KernelIdeal (hPre_capacity_KernelIdeal := facts_kernel) := by
  intro m g m' g' hpre hagree
  have hI := inputs_of (fun c => (hagree c).1) (fun c => (hagree c).2.1) (fun c => (hagree c).2.2.1) (fun c => (hagree c).2.2.2.1) (fun c => (hagree c).2.2.2.2)
  obtain ⟨p1, p2, p3, p4⟩ := hpre (0 : Dev nD)
  have hN := fits_of _ _ _ _ _ p1 p2
  have hx := tokens_real _ _ _ _ _ p3
  have hr := gates_real _ _ _ _ _ p4
  rw [(hagree 0).2.2.1] at hN
  rw [(hagree 0).1] at hx
  rw [(hagree 0).2.1] at hr
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run defs _ _).mono (fun r h c => ?_) (run_main (F := Ideal) m g)
    exact ⟨((h.1 c (5 : Fin 6)).trans (final_out m c)).trans (out_block hx hr hI hN c), kept_of_done m r h.1 c⟩
  · exact (θ_run Cert.ReferenceIdeal.defs _ _).mono (fun r h => h 0) (Cert.ReferenceIdeal.Value.run (F := Ideal) m' g')

/-- The frames hold under the precondition as they do without it. -/
theorem frame_ideal_pre : Cert.quiescent_KernelIdeal_pre_capacity_KernelIdeal (hPre_capacity_KernelIdeal := facts_kernel) :=
  fun m g _ => frame_ideal m g trivial
/-- The reference's frame under the precondition. -/
theorem frame_reference_pre : Cert.quiescent_ReferenceIdeal_pre_capacity_ReferenceIdeal (hPre_capacity_ReferenceIdeal := facts_reference) :=
  fun m g _ => frame_reference m g trivial

end Cert.MoE

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.MoE.facts_kernel, Cert.MoE.facts_reference,
  Cert.MoE.frame_kernel, Cert.MoE.frame_ideal, Cert.MoE.frame_ideal_pre, Cert.MoE.frame_reference, Cert.MoE.frame_reference_pre,
  trivial, Cert.MoE.algebraic⟩

end Cert.Proof

end
